-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S256x512 : Shape := ⟨2, ![256, 512]⟩
abbrev S8x32x512 : Shape := ⟨3, ![8, 32, 512]⟩
abbrev S_ : Shape := ⟨0, ![]⟩
abbrev S8 : Shape := ⟨1, ![8]⟩
abbrev S1x256x512 : Shape := ⟨3, ![1, 256, 512]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 2
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S256x512, .f32⟩
  | .local _ .vmem, ⟨1, _⟩ => ⟨S8x32x512, .f32⟩
  | _, _ => ⟨S1x512x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v11 : BitVec 32 := Scalar.muli v2 c256_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v12 : BitVec 32 := Scalar.muli v8 c512_i32
  ![0, v11.toNat, v12.toNat]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v16 : BitVec 32 := Scalar.muli v2 c4_i32_6
  let v17 : BitVec 32 := Scalar.addi c0_i32_7 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v18 : BitVec 32 := Scalar.muli v5 c2_i32_8
  let v19 : BitVec 32 := Scalar.addi v17 v18
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v20 : BitVec 32 := Scalar.muli v9 c1_i32_9
  let v21 : BitVec 32 := Scalar.addi v19 v20
  v21.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v22 : BitVec 32 := Scalar.muli v10 c4_i32_11
  let v23 : BitVec 32 := Scalar.addi c0_i32_12 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v24 : BitVec 32 := Scalar.muli v5 c2_i32_13
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v26 : BitVec 32 := Scalar.muli v8 c1_i32_14
  let v27 : BitVec 32 := Scalar.addi v25 v26
  v27.toNat
def k0_off2 (d0 : Dev nD) (c0_i32_16 : BitVec 32) : Fin 3 → Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v11 : BitVec 32 := Scalar.muli v2 c256_i32
  let v28 : BitVec 32 := Scalar.addi v11 c0_i32_16
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32_17 : BitVec 32 := 512#32
  let v29 : BitVec 32 := Scalar.muli v9 c512_i32_17
  ![0, v28.toNat, v29.toNat]
def k0_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v30 : BitVec 32 := Scalar.muli v2 c4_i32_22
  let v31 : BitVec 32 := Scalar.addi c0_i32_23 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v32 : BitVec 32 := Scalar.muli v5 c2_i32_24
  let v33 : BitVec 32 := Scalar.addi v31 v32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v34 : BitVec 32 := Scalar.muli v9 c1_i32_25
  let v35 : BitVec 32 := Scalar.addi v33 v34
  v35.toNat
def k0_dev4 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v46 : BitVec 32 := Scalar.muli v2 c4_i32_33
  let v47 : BitVec 32 := Scalar.addi c0_i32_34 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v48 : BitVec 32 := Scalar.muli v5 c2_i32_35
  let v49 : BitVec 32 := Scalar.addi v47 v48
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v50 : BitVec 32 := Scalar.muli v9 c1_i32_36
  let v51 : BitVec 32 := Scalar.addi v49 v50
  v51.toNat
def k0_dev5 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v64 : BitVec 32 := Scalar.muli v5 c2_i32_46
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_47 : BitVec 32 := 1#32
  let v66 : BitVec 32 := Scalar.muli v9 c1_i32_47
  let v67 : BitVec 32 := Scalar.addi v65 v66
  v67.toNat
def k0_dev6 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v78 : BitVec 32 := Scalar.muli v2 c4_i32_54
  let v79 : BitVec 32 := Scalar.addi c0_i32_55 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v80 : BitVec 32 := Scalar.muli v5 c2_i32_56
  let v81 : BitVec 32 := Scalar.addi v79 v80
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_57 : BitVec 32 := 1#32
  let v82 : BitVec 32 := Scalar.muli v9 c1_i32_57
  let v83 : BitVec 32 := Scalar.addi v81 v82
  v83.toNat
def k0_dev7 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v94 : BitVec 32 := Scalar.muli v2 c4_i32_65
  let v95 : BitVec 32 := Scalar.addi c0_i32_66 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v96 : BitVec 32 := Scalar.muli v5 c2_i32_67
  let v97 : BitVec 32 := Scalar.addi v95 v96
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v98 : BitVec 32 := Scalar.muli v9 c1_i32_68
  let v99 : BitVec 32 := Scalar.addi v97 v98
  v99.toNat
def k0_dev8 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v110 : BitVec 32 := Scalar.muli v2 c4_i32_75
  let v111 : BitVec 32 := Scalar.addi c0_i32_76 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v112 : BitVec 32 := Scalar.muli v5 c2_i32_77
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_78 : BitVec 32 := 1#32
  let v114 : BitVec 32 := Scalar.muli v9 c1_i32_78
  let v115 : BitVec 32 := Scalar.addi v113 v114
  v115.toNat
def k0_dev9 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v126 : BitVec 32 := Scalar.muli v2 c4_i32_85
  let v127 : BitVec 32 := Scalar.addi c0_i32_86 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v128 : BitVec 32 := Scalar.muli v5 c2_i32_87
  let v129 : BitVec 32 := Scalar.addi v127 v128
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v130 : BitVec 32 := Scalar.muli v9 c1_i32_88
  let v131 : BitVec 32 := Scalar.addi v129 v130
  v131.toNat
def k0_dev10 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v142 : BitVec 32 := Scalar.muli v2 c4_i32_95
  let v143 : BitVec 32 := Scalar.addi c0_i32_96 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v144 : BitVec 32 := Scalar.muli v5 c2_i32_97
  let v145 : BitVec 32 := Scalar.addi v143 v144
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_98 : BitVec 32 := 1#32
  let v146 : BitVec 32 := Scalar.muli v9 c1_i32_98
  let v147 : BitVec 32 := Scalar.addi v145 v146
  v147.toNat
def k0_off3 (d0 : Dev nD) (c0_i32_118 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v11 : BitVec 32 := Scalar.muli v2 c256_i32
  let v177 : BitVec 32 := Scalar.addi v11 c0_i32_118
  let c0_i32_125 : BitVec 32 := 0#32
  ![v177.toNat, 0]
def k0_dev11 (d0 : Dev nD) : Nat :=
  let c0_i32_122 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_121 : BitVec 32 := 4#32
  let v178 : BitVec 32 := Scalar.muli v10 c4_i32_121
  let v179 : BitVec 32 := Scalar.addi c0_i32_122 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v180 : BitVec 32 := Scalar.muli v5 c2_i32_123
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v182 : BitVec 32 := Scalar.muli v8 c1_i32_124
  let v183 : BitVec 32 := Scalar.addi v181 v182
  v183.toNat
def k0_dev12 (d0 : Dev nD) : Nat :=
  let c0_i32_152 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_151 : BitVec 32 := 4#32
  let v215 : BitVec 32 := Scalar.muli v10 c4_i32_151
  let v216 : BitVec 32 := Scalar.addi c0_i32_152 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v217 : BitVec 32 := Scalar.muli v5 c2_i32_153
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v219 : BitVec 32 := Scalar.muli v8 c1_i32_154
  let v220 : BitVec 32 := Scalar.addi v218 v219
  v220.toNat
def k0_dev13 (d0 : Dev nD) : Nat :=
  let c0_i32_182 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_181 : BitVec 32 := 4#32
  let v252 : BitVec 32 := Scalar.muli v10 c4_i32_181
  let v253 : BitVec 32 := Scalar.addi c0_i32_182 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v254 : BitVec 32 := Scalar.muli v5 c2_i32_183
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v256 : BitVec 32 := Scalar.muli v8 c1_i32_184
  let v257 : BitVec 32 := Scalar.addi v255 v256
  v257.toNat
def k0_dev14 (d0 : Dev nD) : Nat :=
  let c0_i32_212 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_211 : BitVec 32 := 4#32
  let v289 : BitVec 32 := Scalar.muli v10 c4_i32_211
  let v290 : BitVec 32 := Scalar.addi c0_i32_212 v289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v291 : BitVec 32 := Scalar.muli v5 c2_i32_213
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v293 : BitVec 32 := Scalar.muli v8 c1_i32_214
  let v294 : BitVec 32 := Scalar.addi v292 v293
  v294.toNat
def k0_dev15 (d0 : Dev nD) : Nat :=
  let c0_i32_242 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_241 : BitVec 32 := 4#32
  let v326 : BitVec 32 := Scalar.muli v10 c4_i32_241
  let v327 : BitVec 32 := Scalar.addi c0_i32_242 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v328 : BitVec 32 := Scalar.muli v5 c2_i32_243
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v330 : BitVec 32 := Scalar.muli v8 c1_i32_244
  let v331 : BitVec 32 := Scalar.addi v329 v330
  v331.toNat
def k0_dev16 (d0 : Dev nD) : Nat :=
  let c0_i32_272 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_271 : BitVec 32 := 4#32
  let v363 : BitVec 32 := Scalar.muli v10 c4_i32_271
  let v364 : BitVec 32 := Scalar.addi c0_i32_272 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v365 : BitVec 32 := Scalar.muli v5 c2_i32_273
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v367 : BitVec 32 := Scalar.muli v8 c1_i32_274
  let v368 : BitVec 32 := Scalar.addi v366 v367
  v368.toNat
def k0_dev17 (d0 : Dev nD) : Nat :=
  let c0_i32_302 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_301 : BitVec 32 := 4#32
  let v400 : BitVec 32 := Scalar.muli v10 c4_i32_301
  let v401 : BitVec 32 := Scalar.addi c0_i32_302 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v402 : BitVec 32 := Scalar.muli v5 c2_i32_303
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v404 : BitVec 32 := Scalar.muli v8 c1_i32_304
  let v405 : BitVec 32 := Scalar.addi v403 v404
  v405.toNat
def k0_dev18 (d0 : Dev nD) : Nat :=
  let c0_i32_332 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_331 : BitVec 32 := 4#32
  let v437 : BitVec 32 := Scalar.muli v10 c4_i32_331
  let v438 : BitVec 32 := Scalar.addi c0_i32_332 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_333 : BitVec 32 := 2#32
  let v439 : BitVec 32 := Scalar.muli v5 c2_i32_333
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_334 : BitVec 32 := 1#32
  let v441 : BitVec 32 := Scalar.muli v8 c1_i32_334
  let v442 : BitVec 32 := Scalar.addi v440 v441
  v442.toNat
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
The device program of the two-axis reduce-scatter kernel, written as a chain over its eight chunks.

One device of the 2×2×2 mesh holds an array `x` of shape 1×512×1024. It keeps one half of the rows (chosen by its
x coordinate) and one half of the columns (chosen by its z coordinate), receives its z-partner's numbers for that
same part in eight chunks of 32 rows, adds them, and trades the finished chunks with its x-partner.

This module names the buffers, the semaphores and the sub-arrays each chunk touches, writes the program as
`first copy; handshake; eight sends; wait; eight sum-and-forward steps; eight closing steps`, and proves that the
printed kernel body is that program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Chunked

open Cert.KernelIdeal Cert.KernelIdeal.Gen

open Idealize.ShloMosaic
open Idealize.ShloMosaic.TcCoe
open Idealize.SL Idealize.SL.Sem

variable {F : FTy → Type} [FloatOps F]

/-! ## Partners -/

/-- The device with the other z coordinate. -/
def zP (c : Dev nD) : Dev nD := ⟨k0_dev1 c, k0_dev1_lt c⟩
/-- The device with the other x coordinate. -/
def xP (c : Dev nD) : Dev nD := ⟨k0_dev2 c, k0_dev2_lt c⟩

/-- The z-partner of the z-partner is the device itself. -/
theorem zP_zP (c : Dev nD) : zP (zP c) = c := by
  have h : ∀ c : Dev nD, k0_dev1 (zP c) = c.val := by decide +kernel
  exact Fin.ext (h c)
/-- The x-partner of the x-partner is the device itself. -/
theorem xP_xP (c : Dev nD) : xP (xP c) = c := by
  have h : ∀ c : Dev nD, k0_dev2 (xP c) = c.val := by decide +kernel
  exact Fin.ext (h c)

/-! ## Buffers -/

/-- The device's input. -/
abbrev xM : Memref sig .tc .hbm S1x512x1024 .f32 := Memref.whole main_arg0
/-- The device's result. -/
abbrev oM : Memref sig .tc .hbm S512x512 .f32 := Memref.whole main_v1
/-- The running sums, in fast memory. -/
abbrev lM : Memref sig .tc .vmem S256x512 .f32 := Memref.whole cc0_scratch0
/-- The landing place of the z-partner's chunks. -/
abbrev rM : Memref sig .tc .vmem S8x32x512 .f32 := Memref.whole cc0_scratch1

/-! ## Sub-arrays -/

theorem semIn (i : Fin 8) : ∀ a, (![i.val] : Fin 1 → Nat) a + S1.size a ≤ S8.size a := by revert i; decide
theorem recvIn (i : Fin 8) : ∀ a, (![i.val, 0, 0] : Fin 3 → Nat) a + S1x32x512.size a ≤ S8x32x512.size a := by revert i; decide
theorem locIn (i : Fin 8) : ∀ a, (![32 * i.val, 0] : Fin 2 → Nat) a + S32x512.size a ≤ S256x512.size a := by revert i; decide

/-- Semaphore `i` of an array of eight. -/
def semAt (s : DmaSems sig S8) (i : Fin 8) : DmaSem sig :=
  ((s.slice (Rect.unit (s := S8) ![i.val] S1.size (semIn i))).squeeze S_ squeezes_S1_S_).sem

/-- The part of `x` the device keeps: its half of the rows, its half of the columns. -/
def xOwn (d : Dev nD) : Memref sig .tc .hbm S256x512 .f32 :=
  (xM.slice (Rect.unit (s := S1x512x1024) (k0_off1 d) S1x256x512.size (k0_off1_inb d)) (fun _ => rfl)).squeeze S256x512 squeezes_S1x256x512_S256x512
/-- Chunk `i` of the part of `x` the device sends away: its half of the rows, the other half of the columns. -/
def xOut (d : Dev nD) (i : Fin 8) : Memref sig .tc .hbm S32x512 .f32 :=
  (xM.slice (Rect.unit (s := S1x512x1024) (k0_off2 d (BitVec.ofNat 32 (32 * i.val))) S1x32x512.size (k0_off2_inb d i)) (fun _ => rfl)).squeeze S32x512 squeezes_S1x32x512_S32x512
/-- Landing chunk `i`. -/
def rCh (i : Fin 8) : Memref sig .tc .vmem S32x512 .f32 :=
  (rM.slice (Rect.unit (s := S8x32x512) ![i.val, 0, 0] S1x32x512.size (recvIn i)) (fun _ => rfl)).squeeze S32x512 squeezes_S1x32x512_S32x512
/-- Chunk `i` of the running sums. -/
def lCh (i : Fin 8) : Memref sig .tc .vmem S32x512 .f32 :=
  lM.slice (Rect.unit (s := S256x512) ![32 * i.val, 0] S32x512.size (locIn i)) (fun _ => rfl)
/-- Chunk `i` of the result rows belonging to device `d`'s half of the rows. -/
def oCh (d : Dev nD) (i : Fin 8) : Memref sig .tc .hbm S32x512 .f32 :=
  oM.slice (Rect.unit (s := S512x512) (k0_off3 d (BitVec.ofNat 32 (32 * i.val))) S32x512.size (k0_off3_inb d i)) (fun _ => rfl)

/-! ## The program, with its continuation -/

/-- The programs of one device. -/
abbrev Pg (F : FTy → Type) : Type 1 := Prog (TpuEff nD τ sig (Elt F) Λ₀ .tc) PUnit

/-- The handshake semaphore. -/
abbrev barSem : Sem sig := (SemArray.scalar (sig.barrier 0 rfl) : Sems sig S_).sem

/-- Send chunk `i` of the outgoing part of `x` to the z-partner's landing place. -/
def sendZ (d : Dev nD) (i : Fin 8) (k : Pg F) : Pg F :=
  .op (.enqueueDma (xOut d i) (.remote (Dev.tc (zP d)) (rCh i) (.dma (semAt cc0_scratch4 i))) (.dma (semAt cc0_scratch5 i))
    ((View.wordExact_bits rfl).reshape _ _) ((View.wordExact_bits rfl).reshape _ _) ⟨⟨rfl, Or.inl rfl⟩, trivial⟩) fun _ => k

/-- The sum of two chunks as the kernel forms it. -/
def chunkSum (a : Vec F S32x512 .f32) (b : Vec F S1x32x512 .f32) : FVec F S32x512 .f32 := k0_pay1 a b

/-- Wait for landing chunk `i`, add it to the running sums, forward the sum to the x-partner's result and copy it
    to the own result. -/
def sumStep (d : Dev nD) (i : Fin 8) (k : Pg F) : Pg F :=
  .op (.waitDma2 (semAt cc0_scratch5 i) (xOut d i) (rCh i) ((View.wordExact_bits rfl).reshape _ _) ((View.wordExact_bits rfl).reshape _ _)) fun _ =>
  .op (.load lM (Rect.unit (s := S256x512) ![32 * i.val, 0] S32x512.size (locIn i)).toLoadRect (View.loadsAt_vmem h_S32x512)) fun a =>
  .op (.load rM (Rect.unit (s := S8x32x512) ![i.val, 0, 0] S1x32x512.size (recvIn i)).toLoadRect (View.loadsAt_vmem h_S1x32x512)) fun b =>
  .op (.load lM (Rect.unit (s := S256x512) ![32 * i.val, 0] S32x512.size (locIn i)).toLoadRect (View.loadsAt_vmem h_S32x512)) fun _ =>
  .op (.store lM (Rect.unit (s := S256x512) ![32 * i.val, 0] S32x512.size (locIn i)) (chunkSum a b) Finset.univ (View.stores_vmem_bits_univ h_S32x512 rfl) (.inl rfl)) fun _ =>
  .op (.enqueueDma (lCh i) (.remote (Dev.tc (xP d)) (oCh d i) (.dma (semAt cc0_scratch6 i))) (.dma (semAt cc0_scratch7 i))
    (View.wordExact_bits rfl) (View.wordExact_bits rfl) ⟨⟨rfl, Or.inl rfl⟩, trivial⟩) fun _ =>
  .op (.enqueueDma (lCh i) (.here (oCh d i)) (.dma (semAt cc0_scratch3 i)) (View.wordExact_bits rfl) (View.wordExact_bits rfl) ⟨Or.inl rfl, trivial⟩) fun _ => k

/-- Wait until the four copies of chunk `i` (sent to the z-partner, sent to the x-partner, received from the
    x-partner, copied to the own result) are done. -/
def closeStep (d : Dev nD) (i : Fin 8) (k : Pg F) : Pg F :=
  .op (.waitDma2 (semAt cc0_scratch4 i) (rCh i) (xOut d i) ((View.wordExact_bits rfl).reshape _ _) ((View.wordExact_bits rfl).reshape _ _)) fun _ =>
  .op (.waitDma2 (semAt cc0_scratch6 i) (oCh d i) (lCh i) (View.wordExact_bits rfl) (View.wordExact_bits rfl)) fun _ =>
  .op (.waitDma2 (semAt cc0_scratch7 i) (lCh i) (oCh d i) (View.wordExact_bits rfl) (View.wordExact_bits rfl)) fun _ =>
  .op (.waitDma2 (semAt cc0_scratch3 i) (lCh i) (oCh d i) (View.wordExact_bits rfl) (View.wordExact_bits rfl)) fun _ => k

/-- The eight chunks in order. -/
abbrev chunks : List (Fin 8) := [0, 1, 2, 3, 4, 5, 6, 7]

/-- The start: the copy of the kept part into the running sums, and the handshake with the two partners. -/
def opening (d : Dev nD) (k : Pg F) : Pg F :=
  .op (.enqueueDma (xOwn d) (.here lM) (.dma cc0_scratch2.sem) ((View.wordExact_bits rfl).reshape _ _) (Memref.isWhole_whole _).wordExact ⟨Or.inl rfl, trivial⟩) fun _ =>
  .op (.semSignal (Dev.tc (zP d)) barSem 1) fun _ =>
  .op (.semSignal (Dev.tc (xP d)) barSem 1) fun _ =>
  .op (.semWait barSem 2) fun _ => k

/-- Wait for the copy of the kept part. -/
def waitOwn (d : Dev nD) (k : Pg F) : Pg F :=
  .op (.waitDma2 cc0_scratch2.sem (xOwn d) lM ((View.wordExact_bits rfl).reshape _ _) (Memref.isWhole_whole _).wordExact) fun _ => k

/-- The whole program of one device. -/
def chunkedProg : Pg F :=
  .op .deviceId fun d =>
    opening d (chunks.foldr (sendZ d) (waitOwn d (chunks.foldr (sumStep d) (chunks.foldr (closeStep d) (.ret ⟨⟩)))))

set_option maxRecDepth 65536 in
set_option maxHeartbeats 4000000 in
/-- The printed kernel body is the program above. -/
theorem body_eq_chunked : cc0_body (F := F) xM (Memref.isWhole_whole _) oM (Memref.isWhole_whole _) lM (Memref.isWhole_whole _) rM (Memref.isWhole_whole _)
      cc0_scratch2 cc0_scratch3 cc0_scratch4 cc0_scratch5 cc0_scratch6 cc0_scratch7
    = chunkedProg := rfl

end Cert.KernelIdeal.Chunked

end
-- ==== Proof.Areas.lean ====
/-
The areas the chunks occupy: which elements of each buffer a chunk is, that the chunks of a buffer do not overlap and
together fill it, and what follows for ownership — a whole buffer is its chunks, and the input array can be lent out
piecewise for reading and comes back whole.
-/
module

public import proofs.«01_k».proof.Proof.Program

@[expose] public section

noncomputable section

namespace Cert.KernelIdeal.Chunked

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

/-! ## The resources -/

/-- The ghost state: the launch library's own, and the rounds of this kernel's semaphores with duties named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Which elements a chunk is -/

/-- The half of the rows device `d` keeps: its x coordinate. -/
abbrev half (d : Dev nD) : ℕ := d.val / 4

/-- The two x-partners keep different halves. -/
theorem half_xP (c : Dev nD) : half (xP c) = 1 - half c := by revert c; decide +kernel
theorem half_le (c : Dev nD) : half c ≤ 1 := by revert c; decide +kernel

/-- Chunk `i` of the running sums is rows `32 i` to `32 i + 31`. -/
theorem mem_lCh (i : Fin 8) (x : S256x512.Idx) : x ∈ (lCh i).view.set ↔ 32 * i.val ≤ (x 0).val ∧ (x 0).val < 32 * i.val + 32 := by
  unfold lCh
  rw [show (lM.slice (Rect.unit (s := S256x512) ![32 * i.val, 0] S32x512.size (locIn i)) (fun _ => rfl)).view.set
    = (Rect.unit (s := S256x512) ![32 * i.val, 0] S32x512.size (locIn i)).set from View.set_slice_whole _ _, Rect.mem_set_unit]
  refine ⟨fun h => h 0, fun h a => ?_⟩
  fin_cases a
  · exact h
  · exact ⟨Nat.zero_le _, show (x 1).val < 0 + 512 by have h' : (x 1).val < 512 := (x 1).isLt; omega⟩

/-- Landing chunk `i` is slice `i` of the landing place. -/
theorem mem_rCh (i : Fin 8) (x : S8x32x512.Idx) : x ∈ (rCh i).view.set ↔ (x 0).val = i.val := by
  unfold rCh
  rw [show ((rM.slice (Rect.unit (s := S8x32x512) ![i.val, 0, 0] S1x32x512.size (recvIn i)) (fun _ => rfl)).squeeze S32x512 squeezes_S1x32x512_S32x512).view.set
      = (Rect.unit (s := S8x32x512) ![i.val, 0, 0] S1x32x512.size (recvIn i)).set from
    (View.set_reshape _ _).trans (View.set_slice_whole _ _), Rect.mem_set_unit]
  refine ⟨fun h => ?_, fun h a => ?_⟩
  · have h0 : i.val ≤ (x 0).val ∧ (x 0).val < i.val + 1 := h 0
    omega
  · fin_cases a
    · show i.val ≤ (x 0).val ∧ (x 0).val < i.val + 1
      omega
    · exact ⟨Nat.zero_le _, show (x 1).val < 0 + 32 by have h' : (x 1).val < 32 := (x 1).isLt; omega⟩
    · exact ⟨Nat.zero_le _, show (x 2).val < 0 + 512 by have h' : (x 2).val < 512 := (x 2).isLt; omega⟩

/-- Chunk `i` of the result rows of `d`'s half: 32 rows starting at `256 * half d + 32 i`. -/
theorem mem_oCh (d : Dev nD) (i : Fin 8) (x : S512x512.Idx) :
    x ∈ (oCh d i).view.set ↔ 256 * half d + 32 * i.val ≤ (x 0).val ∧ (x 0).val < 256 * half d + 32 * i.val + 32 := by
  have ho : k0_off3 d (BitVec.ofNat 32 (32 * i.val)) = ![256 * half d + 32 * i.val, 0] := k0_off3_eq d i
  unfold oCh
  rw [show (oM.slice (Rect.unit (s := S512x512) (k0_off3 d (BitVec.ofNat 32 (32 * i.val))) S32x512.size (k0_off3_inb d i)) (fun _ => rfl)).view.set
      = (Rect.unit (s := S512x512) (k0_off3 d (BitVec.ofNat 32 (32 * i.val))) S32x512.size (k0_off3_inb d i)).set from View.set_slice_whole _ _,
    Rect.mem_set_unit, ho]
  refine ⟨fun h => h 0, fun h a => ?_⟩
  fin_cases a
  · exact h
  · exact ⟨Nat.zero_le _, show (x 1).val < 0 + 512 by have h' : (x 1).val < 512 := (x 1).isLt; omega⟩

/-! ## Cutting a buffer and joining it again -/

section Cut

variable {ℓ : Loc nD τ sig} {T : Type} [Fintype T] [DecidableEq T] (K : T → Finset (Idx ℓ)) {q : PosShare TreeShare}

/-- A buffer whose elements fall into the areas `K t` is owned whole when every area is. -/
theorem cut_eq (hd : ∀ t t', t ≠ t' → Disjoint (K t) (K t')) (hc : ∀ x, ∃ t, x ∈ K t) (f : Buf (Elt F) ℓ) :
    (ℓ ↦{q} f : sProp 𝕄) = bigSep Finset.univ fun t => ℓ ↦[K t]{q} f := by
  have hu : (Finset.univ : Finset (Idx ℓ)) = Finset.univ.biUnion K :=
    (Finset.eq_univ_iff_forall.mpr fun x => let ⟨t, ht⟩ := hc x; Finset.mem_biUnion.mpr ⟨t, Finset.mem_univ _, ht⟩).symm
  rw [hu]
  exact pointsTo_biUnion Finset.univ K fun t _ t' _ h => hd t t' h

/-- Areas owned at contents with the properties `P t` (which only read area `t`) make the whole buffer owned at
    contents with all of them. -/
theorem join_all (hd : ∀ t t', t ≠ t' → Disjoint (K t) (K t')) (hc : ∀ x, ∃ t, x ∈ K t) (f₀ : Buf (Elt F) ℓ) (P : T → Buf (Elt F) ℓ → Prop)
    (hP : ∀ t f g, (∀ x ∈ K t, g x = f x) → P t f → P t g) :
    (bigSep Finset.univ fun t => iprop(∃ f, ⌜P t f⌝ ∗ (ℓ ↦[K t]{q} f)) : sProp 𝕄) ⊢ iprop(∃ g, ⌜∀ t, P t g⌝ ∗ (ℓ ↦{q} g)) := by
  have hu : Finset.univ.biUnion K = (Finset.univ : Finset (Idx ℓ)) :=
    Finset.eq_univ_iff_forall.mpr fun x => let ⟨t, ht⟩ := hc x; Finset.mem_biUnion.mpr ⟨t, Finset.mem_univ _, ht⟩
  have hpure : ∀ (fs : T → Buf (Elt F) ℓ), (bigSep Finset.univ fun t => iprop(⌜P t (fs t)⌝ ∗ (ℓ ↦[K t]{q} fs t)) : sProp 𝕄)
      ⊢ iprop(⌜∀ t, P t (fs t)⌝ ∗ bigSep Finset.univ fun t => (ℓ ↦[K t]{q} fs t)) := fun fs => by
    have hs : ∀ S : Finset T, (bigSep S fun t => iprop(⌜P t (fs t)⌝ ∗ (ℓ ↦[K t]{q} fs t)) : sProp 𝕄)
        ⊢ iprop(⌜∀ t ∈ S, P t (fs t)⌝ ∗ bigSep S fun t => (ℓ ↦[K t]{q} fs t)) := fun S => by
      induction S using Finset.induction_on with
      | empty =>
        rw [bigSep_empty, bigSep_empty]
        exact Laws.emp_sep.2.trans (sep_mono_left (BI.pure_intro fun t ht => absurd ht (Finset.notMem_empty _)))
      | insert t S ht ih =>
        have hb (Φ : T → sProp 𝕄) : bigSep (insert t S) Φ = iprop(Φ t ∗ bigSep S Φ) := bigSep_insert ht
        rw [hb, hb]
        iintro ⟨⟨%h1, Ht⟩, HS⟩
        ihave H := ih $$ HS
        icases H with ⟨%h2, HS⟩
        isplitr
        · ipureintro; intro t' ht'
          rcases Finset.mem_insert.mp ht' with rfl | h
          exacts [h1, h2 t' h]
        · isplitl [Ht] <;> iassumption
    refine (hs Finset.univ).trans (sep_mono_left ?_)
    iintro %h; ipureintro; exact fun t => h t (Finset.mem_univ _)
  iintro H
  ihave H := (BI.bigSep_exists_pi Finset.univ (fun (t : T) (f : Buf (Elt F) ℓ) => (iprop(⌜P t f⌝ ∗ (ℓ ↦[K t]{q} f)) : sProp 𝕄))) $$ H
  icases H with ⟨%fs, H⟩
  ihave H := (hpure fs) $$ H
  icases H with ⟨%hp, H⟩
  ihave H := (pointsTo_biUnion_join Finset.univ K fs f₀ fun t _ t' _ h => hd t t' h) $$ H
  icases H with ⟨%g, %hg, H⟩
  iexists g
  isplitr
  · ipureintro; exact fun t => hP t (fs t) g (hg t (Finset.mem_univ _)) (hp t)
  · rw [hu]; iexact H

end Cut

/-! ## The three buffers cut into chunks -/

theorem lCh_disj (i j : Fin 8) (h : i ≠ j) : Disjoint (lCh i).view.set (lCh j).view.set :=
  Finset.disjoint_left.mpr fun x hi hj => h (Fin.ext (by have := (mem_lCh i x).mp hi; have := (mem_lCh j x).mp hj; omega))
theorem lCh_cover (x : S256x512.Idx) : ∃ i, x ∈ (lCh i).view.set := by
  have hx : (x 0).val < 256 := (x 0).isLt
  exact ⟨⟨(x 0).val / 32, by omega⟩, (mem_lCh _ x).mpr ⟨by show 32 * ((x 0).val / 32) ≤ _; omega, by show _ < 32 * ((x 0).val / 32) + 32; omega⟩⟩
theorem rCh_disj (i j : Fin 8) (h : i ≠ j) : Disjoint (rCh i).view.set (rCh j).view.set :=
  Finset.disjoint_left.mpr fun x hi hj => h (Fin.ext (by have := (mem_rCh i x).mp hi; have := (mem_rCh j x).mp hj; omega))
theorem rCh_cover (x : S8x32x512.Idx) : ∃ i, x ∈ (rCh i).view.set := by
  have hx : (x 0).val < 8 := (x 0).isLt
  exact ⟨⟨(x 0).val, hx⟩, (mem_rCh _ x).mpr rfl⟩

/-- The sixteen result chunks as device `c` sees them: `false` its own half's, `true` its x-partner's. -/
def oPart (c : Dev nD) (t : Bool × Fin 8) : Memref sig .tc .hbm S32x512 .f32 := oCh (bif t.1 then xP c else c) t.2

theorem oPart_disj (c : Dev nD) (t u : Bool × Fin 8) (h : t ≠ u) : Disjoint (oPart c t).view.set (oPart c u).view.set :=
  Finset.disjoint_left.mpr fun x hi hj => h (by
    obtain ⟨a, i⟩ := t; obtain ⟨b, j⟩ := u
    have h1 := (mem_oCh _ i x).mp hi
    have h2 := (mem_oCh _ j x).mp hj
    have hi := i.isLt
    have hj := j.isLt
    have h3 := half_xP c
    have h4 := half_le c
    cases a <;> cases b <;> simp only [cond_true, cond_false] at h1 h2
    · rw [Fin.ext (show i.val = j.val by omega)]
    · omega
    · omega
    · rw [Fin.ext (show i.val = j.val by omega)])

theorem oPart_cover (c : Dev nD) (x : S512x512.Idx) : ∃ t, x ∈ (oPart c t).view.set := by
  have hx : (x 0).val < 512 := (x 0).isLt
  have h3 := half_xP c
  have h4 := half_le c
  by_cases h : (x 0).val / 256 = half c
  · exact ⟨(false, ⟨(x 0).val % 256 / 32, by omega⟩), (mem_oCh _ _ x).mpr ⟨by
      show 256 * half c + 32 * ((x 0).val % 256 / 32) ≤ _; omega, by show _ < 256 * half c + 32 * ((x 0).val % 256 / 32) + 32; omega⟩⟩
  · exact ⟨(true, ⟨(x 0).val % 256 / 32, by omega⟩), (mem_oCh _ _ x).mpr ⟨by
      show 256 * half (xP c) + 32 * ((x 0).val % 256 / 32) ≤ _; omega, by show _ < 256 * half (xP c) + 32 * ((x 0).val % 256 / 32) + 32; omega⟩⟩

/-- Chunk `i` of the running sums, of the landing place, of a result: owned at `X`, by device `c`. -/
abbrev lAt (c : Dev nD) (i : Fin 8) (q : PosShare TreeShare) (X : S32x512.Idx → Elt F .f32) : sProp 𝕄 := owns (c : Thread nD τ) (lCh i) q X
abbrev rAt (c : Dev nD) (i : Fin 8) (X : S32x512.Idx → Elt F .f32) : sProp 𝕄 := owns (c : Thread nD τ) (rCh i) fullShare X
abbrev oAt (c d : Dev nD) (i : Fin 8) (X : S32x512.Idx → Elt F .f32) : sProp 𝕄 := owns (c : Thread nD τ) (oCh d i) fullShare X

/-- A piece of a buffer at contents `f` is owned at what `f` reads there. -/
theorem owns_of_piece (c : Thread nD τ) {sp : Space} {sh : Shape} {e : EltTy} (M : Memref sig c.2.kind sp sh e) (q : PosShare TreeShare)
    (f : Buf (Elt F) (M.view.loc c)) : (M.view.loc c ↦[M.view.set]{q} f : sProp 𝕄) ⊢ owns c M q (M.view.read (Elt F) f) := by
  unfold owns
  iintro H
  iexists f
  isplitr; · ipureintro; rfl
  iexact H

/-- The running sums whole at `X` are their chunks. -/
theorem local_cut (c : Dev nD) (X : Buf (Elt F) ((c : Thread nD τ).loc cc0_scratch0)) :
    (((c : Thread nD τ).loc cc0_scratch0) ↦{fullShare} X : sProp 𝕄) ⊢ bigSep Finset.univ fun i => lAt c i fullShare ((lCh i).view.read (Elt F) X) :=
  (Entails.of_eq (cut_eq (F := F) (ℓ := (c : Thread nD τ).loc cc0_scratch0) (fun i => (lCh i).view.set) lCh_disj lCh_cover X)).trans
    (bigSep_mono fun i _ => owns_of_piece (c : Thread nD τ) (lCh i) fullShare X)

/-- Owned in chunks, the running sums are owned whole at some contents. -/
theorem local_join (c : Dev nD) (f₀ : Buf (Elt F) ((c : Thread nD τ).loc cc0_scratch0)) (X : Fin 8 → S32x512.Idx → Elt F .f32) :
    (bigSep Finset.univ fun i => lAt c i fullShare (X i) : sProp 𝕄) ⊢ iprop(∃ f, ((c : Thread nD τ).loc cc0_scratch0) ↦{fullShare} f) := by
  have h := join_all (F := F) (ℓ := (c : Thread nD τ).loc cc0_scratch0) (q := fullShare) (fun i => (lCh i).view.set) lCh_disj lCh_cover f₀
    (fun i f => (lCh i).view.read (Elt F) f = X i) (fun i f g h hf => (View.read_congr h).trans hf)
  refine h.trans ?_
  iintro ⟨%g, -, H⟩
  iexists g; iexact H

/-- The landing place whole at some contents is its chunks at some contents. -/
theorem recv_cut (c : Dev nD) (f : Buf (Elt F) ((c : Thread nD τ).loc cc0_scratch1)) :
    (((c : Thread nD τ).loc cc0_scratch1) ↦{fullShare} f : sProp 𝕄) ⊢ bigSep Finset.univ fun i => iprop(∃ X, rAt c i X) :=
  (Entails.of_eq (cut_eq (F := F) (ℓ := (c : Thread nD τ).loc cc0_scratch1) (fun i => (rCh i).view.set) rCh_disj rCh_cover f)).trans
    (bigSep_mono fun i _ => (owns_of_piece (c : Thread nD τ) (rCh i) fullShare f).trans (exists_intro (Φ := fun X => rAt c i X) _))

/-- Owned in chunks, the landing place is owned whole at some contents. -/
theorem recv_join (c : Dev nD) (f₀ : Buf (Elt F) ((c : Thread nD τ).loc cc0_scratch1)) (X : Fin 8 → S32x512.Idx → Elt F .f32) :
    (bigSep Finset.univ fun i => rAt c i (X i) : sProp 𝕄) ⊢ iprop(∃ f, ((c : Thread nD τ).loc cc0_scratch1) ↦{fullShare} f) := by
  have h := join_all (F := F) (ℓ := (c : Thread nD τ).loc cc0_scratch1) (q := fullShare) (fun i => (rCh i).view.set) rCh_disj rCh_cover f₀
    (fun i f => (rCh i).view.read (Elt F) f = X i) (fun i f g h hf => (View.read_congr h).trans hf)
  refine h.trans ?_
  iintro ⟨%g, -, H⟩
  iexists g; iexact H

/-- The result is its sixteen chunks: eight of the device's own half of the rows, eight of the x-partner's. -/
theorem out_cut (c : Dev nD) (f : Buf (Elt F) ((c : Thread nD τ).loc main_v1)) :
    (((c : Thread nD τ).loc main_v1) ↦{fullShare} f : sProp 𝕄)
      ⊢ iprop((bigSep Finset.univ fun i => iprop(∃ X, oAt c c i X)) ∗ bigSep Finset.univ fun i => iprop(∃ X, oAt c (xP c) i X)) := by
  refine ((Entails.of_eq (cut_eq (F := F) (ℓ := (c : Thread nD τ).loc main_v1) (fun t => (oPart c t).view.set) (oPart_disj c) (oPart_cover c) f)).trans
    (bigSep_mono fun t _ => (owns_of_piece (c : Thread nD τ) (oPart c t) fullShare f).trans
      (exists_intro (Φ := fun X => (owns (c : Thread nD τ) (oPart c t) fullShare X : sProp 𝕄)) _))).trans ?_
  rw [bigSep_univ_prod, bigSep_univ_eq_bigSepL [false, true] (by decide) (by decide), bigSepL_cons_cons, bigSepL_singleton]
  exact .rfl

/-- The sixteen chunks at contents `X` and `Y` make the whole result, which then reads `X` and `Y` chunk by chunk. -/
theorem out_join (c : Dev nD) (f₀ : Buf (Elt F) ((c : Thread nD τ).loc main_v1)) (X Y : Fin 8 → S32x512.Idx → Elt F .f32) :
    iprop((bigSep Finset.univ fun i => oAt c c i (X i)) ∗ bigSep Finset.univ fun i => oAt c (xP c) i (Y i))
      ⊢ (iprop(∃ g, ⌜(∀ i, (oCh c i).view.read (Elt F) g = X i) ∧ ∀ i, (oCh (xP c) i).view.read (Elt F) g = Y i⌝
          ∗ (((c : Thread nD τ).loc main_v1) ↦{fullShare} g)) : sProp 𝕄) := by
  have h := join_all (F := F) (ℓ := (c : Thread nD τ).loc main_v1) (q := fullShare) (fun t => (oPart c t).view.set) (oPart_disj c) (oPart_cover c) f₀
    (fun t f => (oPart c t).view.read (Elt F) f = bif t.1 then Y t.2 else X t.2) (fun t f g h hf => (View.read_congr h).trans hf)
  rw [bigSep_univ_prod, bigSep_univ_eq_bigSepL [false, true] (by decide) (by decide), bigSepL_cons_cons, bigSepL_singleton] at h
  refine h.trans ?_
  iintro ⟨%g, %hg, H⟩
  iexists g
  isplitr
  · ipureintro; exact ⟨fun i => hg (false, i), fun i => hg (true, i)⟩
  · iexact H

/-! ## Lending the input -/

/-- The share of the input lent to the copy of chunk `i`, and the one lent to the copy of the kept part. -/
abbrev xq (i : Fin 8) : PosShare TreeShare := shareTok fullShare 8 i
abbrev xq' : PosShare TreeShare := shareDrop fullShare 8

/-- What the copies read of the input `f`: the kept part, and outgoing chunk `i`. -/
def xOwnAt (c : Dev nD) (f : Buf (Elt F) ((c : Thread nD τ).loc main_arg0)) : sProp 𝕄 :=
  (xOwn c).view.loc (c : Thread nD τ) ↦[(xOwn c).view.set]{xq'} f
def xOutAt (c : Dev nD) (i : Fin 8) (f : Buf (Elt F) ((c : Thread nD τ).loc main_arg0)) : sProp 𝕄 :=
  (xOut c i).view.loc (c : Thread nD τ) ↦[(xOut c i).view.set]{xq i} f

/-- The input lent to the nine copies: their parts, and the promise that the parts returned make the input again. -/
theorem x_lend (c : Dev nD) (f : Buf (Elt F) ((c : Thread nD τ).loc main_arg0)) :
    (((c : Thread nD τ).loc main_arg0) ↦{fullShare} f : sProp 𝕄)
      ⊢ iprop((xOwnAt c f ∗ bigSep Finset.univ fun i => xOutAt c i f)
          ∗ ((xOwnAt c f ∗ bigSep Finset.univ fun i => xOutAt c i f) -∗ (((c : Thread nD τ).loc main_arg0) ↦{fullShare} f))) := by
  have e1 : (((c : Thread nD τ).loc main_arg0) ↦{xq'} f : sProp 𝕄)
      ⊣⊢ iprop(xOwnAt c f ∗ (((c : Thread nD τ).loc main_arg0) ↦[Finset.univ \ (xOwn c).view.set]{xq'} f)) :=
    pointsTo_split_subset (Finset.subset_univ _)
  have e2 (i : Fin 8) : (((c : Thread nD τ).loc main_arg0) ↦{xq i} f : sProp 𝕄)
      ⊣⊢ iprop(xOutAt c i f ∗ (((c : Thread nD τ).loc main_arg0) ↦[Finset.univ \ (xOut c i).view.set]{xq i} f)) :=
    pointsTo_split_subset (Finset.subset_univ _)
  have e3 : (bigSep Finset.univ fun i : Fin 8 => (((c : Thread nD τ).loc main_arg0) ↦{xq i} f : sProp 𝕄))
      = iprop((bigSep Finset.univ fun i => xOutAt c i f) ∗ bigSep Finset.univ fun i : Fin 8 => (((c : Thread nD τ).loc main_arg0) ↦[Finset.univ \ (xOut c i).view.set]{xq i} f)) := by
    rw [← bigSep_sep']; exact bigSep_congr fun i _ => BI.equiv_iff.mp ⟨(e2 i).1, (e2 i).2⟩
  iintro H
  ihave H := (pointsTo_toks_split (Lvl := ℕ) fullShare 8) $$ H
  icases H with ⟨Ha, Hb⟩
  ihave Ha := e1.1 $$ Ha
  icases Ha with ⟨Ha, Ha'⟩
  ihave Hb := (Entails.of_eq e3) $$ Hb
  icases Hb with ⟨Hb, Hb'⟩
  isplitl [Ha Hb]
  · isplitl [Ha] <;> iassumption
  iintro ⟨Ha, Hb⟩
  iapply (pointsTo_toks_join (Lvl := ℕ) fullShare 8)
  isplitl [Ha Ha']
  · iapply e1.2
    isplitl [Ha] <;> iassumption
  iapply (Entails.of_eq e3.symm)
  isplitl [Hb] <;> iassumption

end Cert.KernelIdeal.Chunked

end
-- ==== Proof.Protocol.lean ====
/-
The protocol of the semaphores, one round each.

* The handshake semaphore of device `c` receives one unit from each partner. The z-partner's unit hands over that
  partner's landing place, the x-partner's unit the rows of its result that `c` will fill.
* The semaphore of the first copy hands over the running sums filled with the kept part of the input.
* For each chunk: the semaphore of the copy to the z-partner gives back the part of the input it read (`zs`); the
  landing semaphore hands over the z-partner's chunk (`zr`); the semaphore of the copy to the x-partner gives back half
  of the read right on the sums (`xs`); the x-partner's arrival semaphore hands over the x-partner's finished chunk
  (`xr`); the semaphore of the copy to the own result hands over the written rows and the other half of the read right
  (`ow`).
-/
module

public import proofs.«01_k».proof.Proof.Areas

@[expose] public section

noncomputable section

namespace Cert.KernelIdeal.Chunked

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores -/

/-- The five semaphores of a chunk. -/
inductive Way | ow | zs | zr | xs | xr
deriving DecidableEq

/-- The position of a way among the five. -/
def Way.pos : Way → Fin 5
  | .ow => 0 | .zs => 1 | .zr => 2 | .xs => 3 | .xr => 4
/-- The way at a position. -/
def wayAt : Fin 5 → Way
  | 0 => .ow | 1 => .zs | 2 => .zr | 3 => .xs | 4 => .xr

set_option backward.proofsInPublic true in
/-- The copy semaphore of chunk `i` for way `w`. -/
def wsem (w : Way) (i : Fin 8) : DmaSem sig := (⟨1 + 8 * w.pos.val + i.val, by have := w.pos.isLt; have := i.isLt; omega⟩ : Fin 41)

/-- The semaphore of the first copy. -/
abbrev ownSem : DmaSem sig := (0 : Fin 41)

set_option backward.proofsInPublic true in
/-- Which chunk and way a copy semaphore belongs to; the first copy's belongs to none. -/
def wayOf (k : DmaSem sig) : Option (Way × Fin 8) :=
  if h : k = ownSem then none
  else some (wayAt ⟨(k.val - 1) / 8 % 5, Nat.mod_lt _ (by decide)⟩, ⟨(k.val - 1) % 8, Nat.mod_lt _ (by decide)⟩)

theorem wayOf_own : wayOf ownSem = none := dif_pos rfl
theorem wayOf_wsem (w : Way) (i : Fin 8) : wayOf (wsem w i) = some (w, i) := by cases w <;> revert i <;> decide
theorem wsem_ne_own (w : Way) (i : Fin 8) : wsem w i ≠ ownSem := by cases w <;> revert i <;> decide

theorem sem_own : cc0_scratch2.sem = ownSem := by decide
theorem sem_ow (i : Fin 8) : semAt cc0_scratch3 i = wsem .ow i := by revert i; decide
theorem sem_zs (i : Fin 8) : semAt cc0_scratch4 i = wsem .zs i := by revert i; decide
theorem sem_zr (i : Fin 8) : semAt cc0_scratch5 i = wsem .zr i := by revert i; decide
theorem sem_xs (i : Fin 8) : semAt cc0_scratch6 i = wsem .xs i := by revert i; decide
theorem sem_xr (i : Fin 8) : semAt cc0_scratch7 i = wsem .xr i := by revert i; decide

/-- The handshake semaphore, the first copy's and a chunk's, on device `c`. -/
abbrev barCell (c : Dev nD) : GSem nD τ sig := ((c : Thread nD τ), .reg barSem)
abbrev ownCell (c : Dev nD) : GSem nD τ sig := ((c : Thread nD τ), .dma ownSem)
abbrev chCell (w : Way) (c : Dev nD) (i : Fin 8) : GSem nD τ sig := ((c : Thread nD τ), .dma (wsem w i))

/-- The amount a copy of a chunk raises its semaphores by. -/
abbrev N : ℕ := (lCh 0).view.dmaCredit
theorem N_pos : 0 < N := View.dmaCredit_pos _ (by decide)
/-- The amount the first copy raises its semaphore by. -/
abbrev NL : ℕ := (lM : Memref sig .tc .vmem S256x512 .f32).view.dmaCredit
theorem NL_pos : 0 < NL := View.dmaCredit_pos _ (by decide)

/-! ## Contents -/

variable (m : (ℓ : Loc nD τ sig) → Buf (Elt F) ℓ)

/-- Device `c`'s input. -/
abbrev xB (c : Dev nD) : Buf (Elt F) ((c : Thread nD τ).loc main_arg0) := m ((c : Thread nD τ).loc main_arg0)
/-- The part of it the device keeps. -/
def kept (c : Dev nD) : Buf (Elt F) ((c : Thread nD τ).loc cc0_scratch0) := (xOwn c).view.read (Elt F) (xB m c)
/-- Chunk `i` of the kept part. -/
def keptCh (c : Dev nD) (i : Fin 8) : S32x512.Idx → Elt F .f32 := (lCh i).view.read (Elt F) (kept m c)
/-- The chunk device `c` sends to its z-partner. -/
def sentCh (c : Dev nD) (i : Fin 8) : S32x512.Idx → Elt F .f32 := (xOut c i).view.read (Elt F) (xB m c)
/-- The finished chunk: the kept one plus the one the z-partner sent. -/
def sumCh (c : Dev nD) (i : Fin 8) : S32x512.Idx → Elt F .f32 := addf (φ := .f32) (keptCh m c i : FVec F S32x512 .f32) (sentCh m (zP c) i : FVec F S32x512 .f32)

/-! ## What each semaphore hands over -/

/-- The half-shares of the sums read by the two outgoing copies. -/
abbrev hL : PosShare TreeShare := PosShare.left fullShare
abbrev hR : PosShare TreeShare := PosShare.right fullShare

/-- What a partner's handshake unit hands device `c`: the z-partner's landing place (`false`), the rows of the
    x-partner's result that `c` fills (`true`). -/
def barPay (c : Dev nD) (d : Bool) : sProp 𝕄 :=
  bif d then bigSep Finset.univ fun i => iprop(∃ X, oAt (xP c) c i X) else bigSep Finset.univ fun i => iprop(∃ X, rAt (zP c) i X)

/-- What the first copy hands over. -/
def ownPay (c : Dev nD) : sProp 𝕄 := iprop((((c : Thread nD τ).loc cc0_scratch0) ↦{fullShare} (kept m c)) ∗ xOwnAt c (xB m c))

/-- What a chunk's semaphores hand over. -/
def chPay (c : Dev nD) (i : Fin 8) : Way → sProp 𝕄
  | .ow => iprop(oAt c c i (sumCh m c i) ∗ lAt c i hR (sumCh m c i))
  | .zs => xOutAt c i (xB m c)
  | .zr => rAt c i (sentCh m (zP c) i)
  | .xs => lAt c i hL (sumCh m c i)
  | .xr => oAt c (xP c) i (sumCh m (xP c) i)

/-- What a copy semaphore hands over. -/
def dmaPay (c : Dev nD) (k : DmaSem sig) : sProp 𝕄 := (wayOf k).elim (ownPay m c) fun p => chPay m c p.2 p.1

omit [FloatOps F] in
instance barPay_storable (c : Dev nD) (d : Bool) : BI.Storable (upEmb : UEmb _ 𝕄) (barPay (F := F) c d) := by
  cases d
  · show BI.Storable _ (bigSep Finset.univ fun i => iprop(∃ X, rAt (zP c) i X)); infer_instance
  · show BI.Storable _ (bigSep Finset.univ fun i => iprop(∃ X, oAt (xP c) c i X)); infer_instance
omit [FloatOps F] in
instance xOwnAt_storable (c : Dev nD) (f) : BI.Storable (upEmb : UEmb _ 𝕄) (xOwnAt (F := F) c f) := by
  have h : ∀ g : Buf (Elt F) ((xOwn c).view.loc (c : Thread nD τ)), BI.Storable (upEmb : UEmb _ 𝕄) (((xOwn c).view.loc (c : Thread nD τ)) ↦[(xOwn c).view.set]{xq'} g) := fun g => inferInstance
  exact h f
omit [FloatOps F] in
instance xOutAt_storable (c : Dev nD) (i : Fin 8) (f) : BI.Storable (upEmb : UEmb _ 𝕄) (xOutAt (F := F) c i f) := by
  have h : ∀ g : Buf (Elt F) ((xOut c i).view.loc (c : Thread nD τ)), BI.Storable (upEmb : UEmb _ 𝕄) (((xOut c i).view.loc (c : Thread nD τ)) ↦[(xOut c i).view.set]{xq i} g) := fun g => inferInstance
  exact h f
omit [FloatOps F] in
instance ownPay_storable (c : Dev nD) : BI.Storable (upEmb : UEmb _ 𝕄) (ownPay (F := F) m c) := by unfold ownPay; infer_instance
instance chPay_storable (c : Dev nD) (i : Fin 8) (w : Way) : BI.Storable (upEmb : UEmb _ 𝕄) (chPay (F := F) m c i w) := by
  cases w
  · show BI.Storable _ iprop(oAt c c i (sumCh m c i) ∗ lAt c i hR (sumCh m c i)); infer_instance
  · show BI.Storable _ (xOutAt c i (xB m c)); infer_instance
  · show BI.Storable _ (rAt c i (sentCh m (zP c) i)); infer_instance
  · show BI.Storable _ (lAt c i hL (sumCh m c i)); infer_instance
  · show BI.Storable _ (oAt c (xP c) i (sumCh m (xP c) i)); infer_instance
instance dmaPay_storable (c : Dev nD) (k : DmaSem sig) : BI.Storable (upEmb : UEmb _ 𝕄) (dmaPay (F := F) m c k) := by
  unfold dmaPay
  cases wayOf k
  · show BI.Storable _ (ownPay m c); infer_instance
  · show BI.Storable _ (chPay m c _ _); infer_instance

/-! ## The schedule -/

/-- One round: the handshake has two duties of one unit, every copy semaphore one duty of its copy's amount. -/
def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma k => if k = ownSem then NL else N
  payload g _ d := match g.2 with | .reg _ => barPay g.1.1 d | .dma k => dmaPay m g.1.1 k
  amount_pos g _ _ _ := by
    obtain ⟨t, s⟩ := g
    cases s with
    | reg s => exact Nat.one_pos
    | dma k =>
      show 0 < if k = ownSem then NL else N
      split
      exacts [NL_pos, N_pos]

instance sched_payload_storable (g : GSem nD τ sig) (r : ℕ) (d : Bool) : BI.Storable (upEmb : UEmb _ 𝕄) ((sched (F := F) m).payload g r d) := by
  obtain ⟨t, s⟩ := g
  cases s with
  | reg s => show BI.Storable _ (barPay t.1 d); infer_instance
  | dma k => show BI.Storable _ (dmaPay m t.1 k); infer_instance

section Sched
variable (c : Dev nD)

theorem duties_bar : (sched m).duties (barCell c) 0 = Finset.univ := by
  show (if (0 : ℕ) = 0 ∧ (barCell c).1.2 = .tc then (Finset.univ : Finset Bool) else ∅) = _
  exact if_pos ⟨rfl, rfl⟩
theorem duties_dma (k : DmaSem sig) : (sched m).duties ((c : Thread nD τ), .dma k) 0 = {false} := by
  show (if (0 : ℕ) = 0 ∧ (barCell c).1.2 = .tc then ({false} : Finset Bool) else ∅) = _
  exact if_pos ⟨rfl, rfl⟩
theorem duties_later (g : GSem nD τ sig) : ∀ r, 1 ≤ r → (sched m).duties g r = ∅ := fun r hr => if_neg fun h => by omega
theorem duty_dma (k : DmaSem sig) : false ∈ (sched m).duties ((c : Thread nD τ), .dma k) 0 := by
  rw [duties_dma]; exact Finset.mem_singleton_self _

theorem amount_bar (d : Bool) : (sched m).amount (barCell c) 0 d = 1 := rfl
theorem amount_own (d : Bool) : (sched m).amount (ownCell c) 0 d = NL := by show (if ownSem = ownSem then NL else N) = _; exact if_pos rfl
theorem amount_ch (w : Way) (i : Fin 8) (d : Bool) : (sched m).amount (chCell w c i) 0 d = N := by
  show (if wsem w i = ownSem then NL else N) = _; exact if_neg (wsem_ne_own w i)

theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_own : (sched m).expect (ownCell c) 0 = NL := by
  unfold Schedule.expect Schedule.amountOf; rw [duties_dma, Finset.sum_singleton, amount_own]
theorem expect_ch (w : Way) (i : Fin 8) : (sched m).expect (chCell w c i) 0 = N := by
  unfold Schedule.expect Schedule.amountOf; rw [duties_dma, Finset.sum_singleton, amount_ch]

theorem payload_bar (d : Bool) : (sched m).payload (barCell c) 0 d = barPay c d := rfl
theorem payload_own (d : Bool) : (sched m).payload (ownCell c) 0 d = ownPay m c := by
  show dmaPay m c ownSem = _
  unfold dmaPay; rw [wayOf_own]; rfl
theorem payload_ch (w : Way) (i : Fin 8) (d : Bool) : (sched m).payload (chCell w c i) 0 d = chPay m c i w := by
  show dmaPay m c (wsem w i) = _
  unfold dmaPay; rw [wayOf_wsem]; rfl

/-- The whole round of the handshake: both partners' payloads. -/
theorem rest_bar : bigSep ((sched m).duties (barCell c) 0 \ ∅) (fun d => (sched m).payload (barCell c) 0 d)
    = iprop((bigSep Finset.univ fun i => iprop(∃ X, rAt (zP c) i X)) ∗ bigSep Finset.univ fun i => iprop(∃ X, oAt (xP c) c i X)) := by
  rw [Finset.sdiff_empty, duties_bar, bigSep_univ_eq_bigSepL [false, true] (by decide) (by decide), bigSepL_cons_cons, bigSepL_singleton]
  rfl
theorem rest_own : bigSep ((sched m).duties (ownCell c) 0 \ ∅) (fun d => (sched m).payload (ownCell c) 0 d) = ownPay m c := by
  rw [Finset.sdiff_empty, duties_dma, bigSep_singleton, payload_own]
theorem rest_ch (w : Way) (i : Fin 8) : bigSep ((sched m).duties (chCell w c i) 0 \ ∅) (fun d => (sched m).payload (chCell w c i) 0 d) = chPay m c i w := by
  rw [Finset.sdiff_empty, duties_dma, bigSep_singleton, payload_ch]

end Sched

/-! ## What each device owes at launch, and the order of waiting -/

/-- What is still owed to the x-partner's arrival semaphores while the chunks of `l` are unsent. -/
def owedX (c : Dev nD) (l : List (Fin 8)) : CellTallies nD τ sig Unit := l.foldr (fun i O => O + tallyAt (chCell .xr (xP c) i) () N) 0
/-- What is still owed while the chunks of `l` are not yet sent to the z-partner and none to the x-partner. -/
def owedZ (c : Dev nD) (l : List (Fin 8)) : CellTallies nD τ sig Unit := l.foldr (fun i O => O + tallyAt (chCell .zr (zP c) i) () N) (owedX c chunks)
/-- After the unit to the z-partner; and at launch. -/
def owed₁ (c : Dev nD) : CellTallies nD τ sig Unit := owedZ c chunks + tallyAt (barCell (xP c)) () 1
def owed₀ (c : Dev nD) : CellTallies nD τ sig Unit := owed₁ c + tallyAt (barCell (zP c)) () 1

def L (g : GSem nD τ sig) : Finset Unit := if g.1.2 = .tc then {()} else ∅
/-- The levels: the handshake 1, landings from the z-partner 2, arrivals from the x-partner 3, own copies 0. -/
def lvWay : Way → ℕ
  | .zr => 2
  | .xr => 3
  | _ => 0
def lvSem : SemLoc sig → ℕ
  | .reg _ => 1
  | .dma k => (wayOf k).elim 0 fun p => lvWay p.1
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl

theorem lvSem_own : lvSem (.dma ownSem) = 0 := by show (wayOf ownSem).elim 0 (fun p => lvWay p.1) = 0; rw [wayOf_own]; rfl
theorem lvSem_zr (i : Fin 8) : lvSem (.dma (wsem .zr i)) = 2 := by show (wayOf _).elim 0 (fun p => lvWay p.1) = 2; rw [wayOf_wsem]; rfl
theorem lvSem_xr (i : Fin 8) : lvSem (.dma (wsem .xr i)) = 3 := by show (wayOf _).elim 0 (fun p => lvWay p.1) = 3; rw [wayOf_wsem]; rfl

theorem owedX_nil (c : Dev nD) : owedX c [] = 0 := rfl
theorem owedX_cons (c : Dev nD) (i : Fin 8) (l : List (Fin 8)) : owedX c (i :: l) = owedX c l + tallyAt (chCell .xr (xP c) i) () N := rfl
theorem owedZ_nil (c : Dev nD) : owedZ c [] = owedX c chunks := by unfold owedZ; rw [List.foldr_nil]
theorem owedZ_cons (c : Dev nD) (i : Fin 8) (l : List (Fin 8)) : owedZ c (i :: l) = owedZ c l + tallyAt (chCell .zr (zP c) i) () N := by
  unfold owedZ; rw [List.foldr_cons]

theorem owedX_pos {c : Dev nD} {l : List (Fin 8)} {g : GSem nD τ sig} {u : Unit} (h : 0 < owedX c l g u) : ∃ i, g = chCell .xr (xP c) i := by
  induction l with
  | nil => exact absurd h (Nat.lt_irrefl 0)
  | cons i l ih =>
    rw [owedX_cons] at h
    by_cases h1 : 0 < owedX c l g u
    · exact ih h1
    · refine ⟨i, (Pipeline.tallyAt_pos (ι := ()) (k := N) (i := u) ?_).1⟩
      have h2 : 0 < owedX c l g u + tallyAt (chCell .xr (xP c) i) () N g u := h
      omega
theorem owedZ_pos {c : Dev nD} {l : List (Fin 8)} {g : GSem nD τ sig} {u : Unit} (h : 0 < owedZ c l g u) :
    (∃ i, g = chCell .zr (zP c) i) ∨ ∃ i, g = chCell .xr (xP c) i := by
  induction l with
  | nil => rw [owedZ_nil] at h; exact Or.inr (owedX_pos h)
  | cons i l ih =>
    rw [owedZ_cons] at h
    by_cases h1 : 0 < owedZ c l g u
    · exact ih h1
    · refine Or.inl ⟨i, (Pipeline.tallyAt_pos (ι := ()) (k := N) (i := u) ?_).1⟩
      have h2 : 0 < owedZ c l g u + tallyAt (chCell .zr (zP c) i) () N g u := h
      omega

/-- A device may wait on a semaphore while all it owes is owed to semaphores of higher level. -/
theorem mayWait (c : Dev nD) (sm : SemLoc sig) (O : CellTallies nD τ sig Unit)
    (h : ∀ g u, 0 < O g u → g.1.2 = .tc ∧ lvSem sm < lvSem g.2) : (levAts L lv : sProp 𝕄) ⊢ MayWait (c : Thread nD τ) sm () O :=
  MayOwe.of_cut (L := L) (lev := lv) (lvSem sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

theorem mayWait_bar (c : Dev nD) : (levAts L lv : sProp 𝕄) ⊢ MayWait (c : Thread nD τ) (.reg barSem) () (owedZ c chunks) :=
  mayWait c _ _ fun g u hg => by
    rcases owedZ_pos hg with ⟨i, rfl⟩ | ⟨i, rfl⟩
    · exact ⟨rfl, by show 1 < lvSem (.dma (wsem .zr i)); rw [lvSem_zr]; decide⟩
    · exact ⟨rfl, by show 1 < lvSem (.dma (wsem .xr i)); rw [lvSem_xr]; decide⟩
theorem mayWait_own (c : Dev nD) : (levAts L lv : sProp 𝕄) ⊢ MayWait (c : Thread nD τ) (.dma ownSem) () (owedX c chunks) :=
  mayWait c _ _ fun g u hg => by
    obtain ⟨i, rfl⟩ := owedX_pos hg
    exact ⟨rfl, by show lvSem (.dma ownSem) < lvSem (.dma (wsem .xr i)); rw [lvSem_xr, lvSem_own]; decide⟩
theorem mayWait_zr (c : Dev nD) (i : Fin 8) (l : List (Fin 8)) : (levAts L lv : sProp 𝕄) ⊢ MayWait (c : Thread nD τ) (.dma (wsem .zr i)) () (owedX c l) :=
  mayWait c _ _ fun g u hg => by
    obtain ⟨j, rfl⟩ := owedX_pos hg
    exact ⟨rfl, by show lvSem (.dma (wsem .zr i)) < lvSem (.dma (wsem .xr j)); rw [lvSem_xr, lvSem_zr]; decide⟩

/-! ## What every device knows -/

/-- All semaphores of a device: the handshake and the copy semaphores. -/
def csem : Option (Fin 41) → SemLoc sig
  | none => .reg barSem
  | some k => .dma k
def kcell (ck : Dev nD × Option (Fin 41)) : GSem nD τ sig := ((ck.1 : Thread nD τ), csem ck.2)

/-- The invariants of all semaphores of all devices, that each is in its round, and the levels. -/
def known (K : Dev nD × Option (Fin 41) → ℕ) : sProp 𝕄 :=
  iprop((bigSep Finset.univ fun ck => cellInv ER (sched m) (K ck) (kcell ck)) ∗ (bigSep Finset.univ fun ck => reached ER (kcell ck) 0) ∗ levAts L lv)

instance known_persistent (K : Dev nD × Option (Fin 41) → ℕ) : BI.Persistent (known m K) := by unfold known; infer_instance

variable (K : Dev nD × Option (Fin 41) → ℕ)

theorem known_inv (ck : Dev nD × Option (Fin 41)) : known m K ⊢ cellInv ER (sched m) (K ck) (kcell ck) := by
  unfold known
  iintro ⟨H, -, -⟩
  iapply (show _ ⊢ _ from BI.bigSep_elim (Φ := fun ck => (cellInv ER (sched m) (K ck) (kcell ck) : sProp 𝕄)) (Finset.mem_univ ck)) $$ H
theorem known_reached (ck : Dev nD × Option (Fin 41)) : known m K ⊢ reached ER (kcell ck) 0 := by
  unfold known
  iintro ⟨-, H, -⟩
  iapply (show _ ⊢ _ from BI.bigSep_elim (Φ := fun ck => (reached ER (kcell ck) 0 : sProp 𝕄)) (Finset.mem_univ ck)) $$ H
theorem known_levels : known m K ⊢ levAts L lv := by
  unfold known
  iintro ⟨-, -, H⟩; iexact H

end Cert.KernelIdeal.Chunked

end
-- ==== Proof.Body.lean ====
/-
The program of one device, run step by step: each chunk's three steps once, for any chunk, and from them the whole.
-/
module

public import proofs.«01_k».proof.Proof.Protocol
public import Idealize.ShloMosaic.Lib.Pipeline.Value

@[expose] public section

noncomputable section

namespace Cert.KernelIdeal.Chunked

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs the program `p` to the postcondition `Q`. -/
abbrev WP (c : Dev nD) (p : Pg F) (Q : PUnit → sProp 𝕄) : sProp 𝕄 :=
  wp frame (wpE (defs₀ (F := F)) 𝒱₀ (c : Thread nD τ) none) Set.univ p Q

/-- Device `c` owes `O`, whatever it has waited for. -/
def owesE (c : Dev nD) (O : CellTallies nD τ sig Unit) : sProp 𝕄 := iprop(∃ W, owes (c : Thread nD τ) O W)

variable (m : (ℓ : Loc nD τ sig) → Buf (Elt F) ℓ) (K : Dev nD × Option (Fin 41) → ℕ)

/-- The invariant, and the round reached, of a copy semaphore. -/
theorem known_inv_ch (w : Way) (c : Dev nD) (i : Fin 8) : known m K ⊢ cellInv ER (sched m) (K (c, some (wsem w i))) (chCell w c i) :=
  known_inv m K (c, some (wsem w i))
theorem known_reached_ch (w : Way) (c : Dev nD) (i : Fin 8) : known m K ⊢ reached ER (chCell w c i) 0 :=
  known_reached m K (c, some (wsem w i))

/-! ## Waiting -/

/-- The chunks start and end at word boundaries. -/
theorem xOut_exact (c : Dev nD) (i : Fin 8) : (xOut c i).view.WordExact := (View.wordExact_bits rfl).reshape _ _
theorem rCh_exact (i : Fin 8) : (rCh i).view.WordExact := (View.wordExact_bits rfl).reshape _ _
theorem lCh_exact (i : Fin 8) : (lCh i).view.WordExact := View.wordExact_bits rfl
theorem oCh_exact (c : Dev nD) (i : Fin 8) : (oCh c i).view.WordExact := View.wordExact_bits rfl

/-- Waiting for a chunk's copy semaphore gives what it hands over; the semaphore is then at zero for good. -/
theorem wait_ch (w : Way) (c : Dev nD) (i : Fin 8) {s : DmaSem sig} (hs : s = wsem w i)
    {sp sp' : Space} {sh : Shape} {e : EltTy} (src : Memref sig .tc sp sh e) (dst : Memref sig .tc sp' sh e)
    (h₁ : src.view.WordExact) (h₂ : dst.view.WordExact) (hN : dst.view.dmaCredit = N)
    (O : CellTallies nD τ sig Unit) (hmay : (levAts L lv : sProp 𝕄) ⊢ MayWait (c : Thread nD τ) (.dma (wsem w i)) () O)
    {k : PUnit → Pg F} {Q : PUnit → sProp 𝕄} :
    iprop(known m K ∗ owesE c O ∗ cred (tallyAt (chCell w c i) () N) ∗ atPos ER (chCell w c i) 0 ∅ 0)
      ⊢ iprop(((owesE c O ∗ semVal (chCell w c i) 0 ∗ chPay m c i w) -∗ WP c (k ⟨⟩) Q) -∗ WP c (.op (.waitDma2 s src dst h₁ h₂) k) Q) := by
  subst hs
  unfold owesE
  iintro ⟨#HK, ⟨%W, HO⟩, Hc, Hat⟩ Hk
  iapply (Rounds.wp_wait_rest_token 𝒱₀ ER (sched m) (c : Thread nD τ) none (κ := K (c, some (wsem w i)))
      (wpE_waitDma2_eq 𝒱₀ (c : Thread nD τ) none Set.univ) (Set.mem_univ _) () (O := O) (W := W) (R := 0) (m := 0) (T := ∅)
      (by rw [Nat.zero_add, expect_ch]; exact hN)) $$ [Hc HO Hat]
  · isplitr; · iapply (known_inv_ch m K w c i); iexact HK
    isplitl [Hc]; · rw [hN]; iexact Hc
    isplitl [HO]; · iexact HO
    isplitr; · iapply hmay; iapply (known_levels m K); iexact HK
    iexact Hat
  iintro ⟨HO, Hat, -, Hpay⟩
  ihave Hpay := (Entails.of_eq (rest_ch m c w i)) $$ Hpay
  imod (Rounds.cell_close ER (sched m) (Set.mem_univ (K (c, some (wsem w i)))) (fun h => h) (R := 0 + 1) (duties_later m (chCell w c i))) $$ [Hat] with Hz
  · isplitr; · iapply (known_inv_ch m K w c i); iexact HK
    iexact Hat
  iapply Hk
  isplitl [HO]; · iexists _; iexact HO
  isplitl [Hz] <;> iassumption

/-- The same for the semaphore of the first copy. -/
theorem wait_own (c : Dev nD) {k : PUnit → Pg F} {Q : PUnit → sProp 𝕄} {s : DmaSem sig} (hs : s = ownSem)
    {h₁ : (xOwn c).view.WordExact} {h₂ : (lM : Memref sig .tc .vmem S256x512 .f32).view.WordExact} :
    iprop(known m K ∗ owesE c (owedX c chunks) ∗ cred (tallyAt (ownCell c) () NL) ∗ atPos ER (ownCell c) 0 ∅ 0)
      ⊢ iprop(((owesE c (owedX c chunks) ∗ semVal (ownCell c) 0 ∗ ownPay m c) -∗ WP c (k ⟨⟩) Q)
          -∗ WP c (.op (.waitDma2 s (xOwn c) lM h₁ h₂) k) Q) := by
  subst hs
  unfold owesE
  iintro ⟨#HK, ⟨%W, HO⟩, Hc, Hat⟩ Hk
  iapply (Rounds.wp_wait_rest_token 𝒱₀ ER (sched m) (c : Thread nD τ) none (κ := K (c, some 0))
      (wpE_waitDma2_eq 𝒱₀ (c : Thread nD τ) none Set.univ) (Set.mem_univ _) () (O := owedX c chunks) (W := W) (R := 0) (m := 0) (T := ∅)
      (by rw [Nat.zero_add, expect_own])) $$ [Hc HO Hat]
  · isplitr; · iapply (known_inv m K (c, some 0)); iexact HK
    isplitl [Hc]; · iexact Hc
    isplitl [HO]; · iexact HO
    isplitr; · iapply (mayWait_own c); iapply (known_levels m K); iexact HK
    iexact Hat
  iintro ⟨HO, Hat, -, Hpay⟩
  ihave Hpay := (Entails.of_eq (rest_own m c)) $$ Hpay
  imod (Rounds.cell_close ER (sched m) (Set.mem_univ (K (c, some 0))) (fun h => h) (R := 0 + 1) (duties_later m (ownCell c))) $$ [Hat] with Hz
  · isplitr; · iapply (known_inv m K (c, some 0)); iexact HK
    iexact Hat
  iapply Hk
  isplitl [HO]; · iexists _; iexact HO
  isplitl [Hz] <;> iassumption

/-! ## Starting a copy -/

/-- A piece of a buffer just written with `w` is owned at `w`. -/
theorem owns_of_write (c : Dev nD) {sp : Space} {sh : Shape} {e : EltTy} (M : Memref sig .tc sp sh e) (q : PosShare TreeShare)
    (f : Buf (Elt F) (M.view.loc (c : Thread nD τ))) (w X : sh.Idx → Elt F e) (h : w = X) :
    (M.view.loc (c : Thread nD τ) ↦[M.view.set]{q} (M.view.write (Elt F) f w Finset.univ) : sProp 𝕄) ⊢ owns (c : Thread nD τ) M q X := by
  subst h
  have h := owns_of_piece (F := F) (c : Thread nD τ) M q (M.view.write (Elt F) f w Finset.univ)
  rw [View.read_write_univ] at h
  exact h

/-- A chunk copied to a partner: the device pays a duty of its own semaphore and one of the partner's, and no longer
    owes the latter. -/
theorem send_ch (w w' : Way) (c d : Dev nD) (i : Fin 8) {s s' : DmaSem sig} (hs : s = wsem w i) (hs' : s' = wsem w' i)
    {sp sp' : Space} (src : Memref sig .tc sp S32x512 .f32) (dst : Memref sig .tc sp' S32x512 .f32) (h₁ : src.view.WordExact) (h₂ : dst.view.WordExact)
    {hsc : dst.view.ref.isScScratch = false} {hsem : DmaTarget.Typed sp (.dma s') (.remote (Dev.tc d : Thread nD τ) dst (.dma s) hsc)}
    (hN : dst.view.dmaCredit = N) (q : PosShare TreeShare) (fs : Buf (Elt F) (src.view.loc (c : Thread nD τ))) (fd : Buf (Elt F) (dst.view.loc (d : Thread nD τ)))
    (O O' : CellTallies nD τ sig Unit) (hO : O = O' + tallyAt (chCell w' d i) () N)
    (hpay : (src.view.loc (c : Thread nD τ) ↦[src.view.set]{q} fs) ⊢ chPay m c i w)
    (hpay' : (dst.view.loc (d : Thread nD τ) ↦[dst.view.set]{fullShare} (dst.view.write (Elt F) fd (src.view.read (Elt F) fs) Finset.univ)) ⊢ chPay m d i w')
    {k : PUnit → Pg F} {Q : PUnit → sProp 𝕄} :
    iprop(known m K ∗ owesE c O ∗ (src.view.loc (c : Thread nD τ) ↦[src.view.set]{q} fs) ∗ (dst.view.loc (d : Thread nD τ) ↦[dst.view.set]{fullShare} fd)
        ∗ dutyTok ER (chCell w c i) 0 false ∗ dutyTok ER (chCell w' d i) 0 false)
      ⊢ iprop(((owesE c O' ∗ cred (tallyAt (chCell w c i) () N)) -∗ WP c (k ⟨⟩) Q)
          -∗ WP c (.op (.enqueueDma src (.remote (Dev.tc d : Thread nD τ) dst (.dma s) hsc) (.dma s') h₁ h₂ hsem) k) Q) := by
  subst hs; subst hs'
  unfold owesE
  iintro ⟨#HK, ⟨%W, HO⟩, Hs, Hd, HtS, HtR⟩ Hk
  iapply (Rounds.wp_send_pointsTo (hsrc := h₁) (hdst := h₂) (hsem := hsem) 𝒱₀ ER (sched m) (c : Thread nD τ) none
    (κ₁ := K (c, some (wsem w i))) (κ₂ := K (d, some (wsem w' i)))
    (r₁ := 0) (r₂ := 0) (d₁ := false) (d₂ := false) (q := q) (fs := fs) (fd := fd) (duty_dma m c (wsem w i)) (duty_dma m d (wsem w' i)) () () N hN
    (amount_ch m c w i false) (amount_ch m d w' i false) O' hO (W := W)
    (by rw [payload_ch]; exact hpay) (by rw [payload_ch]; exact hpay')) $$ [Hs Hd HO HtS HtR]
  · isplitr; · iapply (known_inv_ch m K w c i); iexact HK
    isplitr; · iapply (known_inv_ch m K w' d i); iexact HK
    isplitl [Hs]; · iexact Hs
    isplitl [Hd]; · iexact Hd
    isplitl [HO]; · iexact HO
    isplitl [HtS]; · iexact HtS
    isplitr; · iapply (known_reached_ch m K w c i); iexact HK
    isplitl [HtR]; · iexact HtR
    iapply (known_reached_ch m K w' d i); iexact HK
  iintro ⟨Hc, HO⟩
  iapply Hk
  isplitl [HO]; · iexists W; iexact HO
  iexact Hc

/-- A copy within the device. -/
theorem copy_here (k' : DmaSem sig) (n : ℕ) (c : Dev nD) {s : DmaSem sig} (hs : s = k') {sp sp' : Space} {sh : Shape}
    (src : Memref sig .tc sp sh .f32) (dst : Memref sig .tc sp' sh .f32) (h₁ : src.view.WordExact) (h₂ : dst.view.WordExact)
    {hsem : DmaTarget.Typed (nD := nD) sp (.dma s) (DmaTarget.here (p := (c : Thread nD τ).2) dst)}
    (hN : dst.view.dmaCredit = n) (hn : (sched m).amount ((c : Thread nD τ), .dma k') 0 false = n) (q : PosShare TreeShare)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ (sched m).payload ((c : Thread nD τ), .dma k') 0 false)
    {k : PUnit → Pg F} {Q : PUnit → sProp 𝕄} :
    iprop(known m K ∗ (src.view.loc (c : Thread nD τ) ↦[src.view.set]{q} fs) ∗ (dst.view.loc (c : Thread nD τ) ↦[dst.view.set]{fullShare} fd)
        ∗ dutyTok ER ((c : Thread nD τ), .dma k') 0 false)
      ⊢ iprop((cred (tallyAt ((c : Thread nD τ), .dma k') () n) -∗ WP c (k ⟨⟩) Q) -∗ WP c (.op (.enqueueDma src (.here dst) (.dma s) h₁ h₂ hsem) k) Q) := by
  subst hs
  iintro ⟨#HK, Hs, Hd, Ht⟩ Hk
  iapply (Rounds.wp_copy_pointsTo (hsrc := h₁) (hdst := h₂) (hsem := hsem) 𝒱₀ ER (sched m) (c : Thread nD τ) none
    (κ := K (c, some s))
    (r := 0) (d := false) (q := q) (fs := fs) (fd := fd) (duty_dma m c s) () n hN hn hpay) $$ [Hs Hd Ht]
  · isplitr; · iapply (known_inv m K (c, some s)); iexact HK
    isplitl [Hs]; · iexact Hs
    isplitl [Hd]; · iexact Hd
    isplitl [Ht]; · iexact Ht
    iapply (known_reached m K (c, some s)); iexact HK
  iexact Hk

/-! ## Sending a chunk to the z-partner -/

/-- The right to pay the two duties of the copy of chunk `i` to the z-partner. -/
def sendTok (c : Dev nD) (i : Fin 8) : sProp 𝕄 := iprop(dutyTok ER (chCell .zs c i) 0 false ∗ dutyTok ER (chCell .zr (zP c) i) 0 false)

theorem sendZ_step (c : Dev nD) (i : Fin 8) (l : List (Fin 8)) (k : Pg F) (Q : PUnit → sProp 𝕄) :
    iprop(known m K ∗ owesE c (owedZ c (i :: l)) ∗ (xOutAt c i (xB m c) ∗ (∃ X, rAt (zP c) i X) ∗ sendTok c i))
      ⊢ iprop(((owesE c (owedZ c l) ∗ cred (tallyAt (chCell .zs c i) () N)) -∗ WP c k Q) -∗ WP c (sendZ c i k) Q) := by
  unfold sendZ sendTok xOutAt rAt owns
  iintro ⟨#HK, HO, Hx, ⟨%X, %g, %hg, Hr⟩, HtS, HtR⟩ Hk
  iapply (send_ch m K .zs .zr c (zP c) i (sem_zs i) (sem_zr i) (xOut c i) (rCh i) (xOut_exact c i) (rCh_exact i) rfl (xq i) (xB m c) g
    (owedZ c (i :: l)) (owedZ c l) (owedZ_cons c i l) .rfl
    (owns_of_write (zP c) (rCh i) fullShare g _ _ (show sentCh m c i = sentCh m (zP (zP c)) i by rw [zP_zP]))) $$ [Hx Hr HO HtS HtR]
  · isplitr; · iexact HK
    isplitl [HO]; · iexact HO
    isplitl [Hx]; · iexact Hx
    isplitl [Hr]; · iexact Hr
    isplitl [HtS] <;> iassumption
  iexact Hk

/-! ## Adding a chunk and passing the sum on -/

/-- The rectangles the loads and the store of chunk `i` go through. -/
abbrev lRect (i : Fin 8) : Rect S256x512 := Rect.unit (s := S256x512) ![32 * i.val, 0] S32x512.size (locIn i)
abbrev rRect (i : Fin 8) : Rect S8x32x512 := Rect.unit (s := S8x32x512) ![i.val, 0, 0] S1x32x512.size (recvIn i)

/-- The sum the kernel forms from the chunk of the running sums and the landed chunk. -/
theorem chunkSum_eq (i : Fin 8) (f : (cc0_scratch0 : Ref sig .tc).ty.Contents (Elt F)) (g : (cc0_scratch1 : Ref sig .tc).ty.Contents (Elt F)) :
    chunkSum ((lM.access (lRect i)).read (Elt F) f)
        ((rM.access (rRect i)).read (Elt F) g)
      = addf (φ := .f32) ((lCh i).view.read (Elt F) f : FVec F S32x512 .f32) ((rCh i).view.read (Elt F) g : FVec F S32x512 .f32) := by
  unfold chunkSum k0_pay1
  dsimp only
  rw [Idealize.ShloMosaic.shapeCast_self]
  rfl

/-- The sum chunk is lent in halves to the two copies that read it, and comes back. -/
theorem lAt_join (c : Dev nD) (i : Fin 8) (X : S32x512.Idx → Elt F .f32) : iprop(lAt c i hL X ∗ lAt c i hR X) ⊢ (lAt c i fullShare X : sProp 𝕄) := by
  unfold lAt owns
  iintro ⟨⟨%f, %hf, Hf⟩, ⟨%g, %hg, Hg⟩⟩
  have he : ∀ x ∈ (lCh i).view.set, g x = f x := fun x hx => by
    obtain ⟨y, -, rfl⟩ := Finset.mem_map.mp hx
    have h := congrFun (hg.trans hf.symm) y
    exact cast_inj _ |>.mp h
  ihave Hg := (Entails.of_eq (pointsTo_congr (q := hR) he)) $$ Hg
  iexists f
  isplitr; · ipureintro; exact hf
  iapply (pointsTo_share (PosShare.mem_left_op_right fullShare)).2
  isplitl [Hf] <;> iassumption

/-- The rights chunk `i`'s sum step uses. -/
def sumTok (c : Dev nD) (i : Fin 8) : sProp 𝕄 :=
  iprop(cred (tallyAt (chCell .zr c i) () N) ∗ atPos ER (chCell .zr c i) 0 ∅ 0 ∗ dutyTok ER (chCell .xs c i) 0 false
    ∗ dutyTok ER (chCell .xr (xP c) i) 0 false ∗ dutyTok ER (chCell .ow c i) 0 false)

theorem sumStep_step (c : Dev nD) (i : Fin 8) (l : List (Fin 8)) (k : Pg F) (Q : PUnit → sProp 𝕄) :
    iprop(known m K ∗ owesE c (owedX c (i :: l))
        ∗ (lAt c i fullShare (keptCh m c i) ∗ (∃ X, oAt (xP c) c i X) ∗ (∃ X, oAt c c i X) ∗ sumTok c i))
      ⊢ iprop(((owesE c (owedX c l)
            ∗ (semVal (chCell .zr c i) 0 ∗ rAt c i (sentCh m (zP c) i) ∗ cred (tallyAt (chCell .xs c i) () N) ∗ cred (tallyAt (chCell .ow c i) () N)))
          -∗ WP c k Q) -∗ WP c (sumStep c i k) Q) := by
  unfold sumStep
  unfold sumTok
  iintro ⟨#HK, HO, Hl, Ho', Ho, Hc, Hat, HtS, HtR, HtO⟩ Hk
  iapply (wait_ch m K .zr c i (sem_zr i) (xOut c i) (rCh i) (xOut_exact c i) (rCh_exact i) rfl _ (mayWait_zr c i (i :: l))) $$ [HO Hc Hat]
  · isplitr; · iexact HK
    isplitl [HO]; · iexact HO
    isplitl [Hc] <;> iassumption
  iintro ⟨HO, Hz, Hr⟩
  ihave Hr := (show chPay m c i .zr ⊢ rAt c i (sentCh m (zP c) i) from .rfl) $$ Hr
  unfold lAt rAt oAt owns
  icases Hl with ⟨%f, %hf, Hl⟩
  icases Hr with ⟨%g, %hg, Hr⟩
  icases Ho' with ⟨%X', %f', %hf', Ho'⟩
  icases Ho with ⟨%X'', %f'', %hf'', Ho⟩
  -- the two chunks are read, their sum is written
  ihave Hl := (show ((lCh i).view.loc (c : Thread nD τ) ↦[(lCh i).view.set]{fullShare} f) ⊢ ((lM.access (lRect i)).loc (c : Thread nD τ) ↦[(lCh i).view.set]{fullShare} f) from .rfl) $$ Hl
  ihave Hr := (show ((rCh i).view.loc (c : Thread nD τ) ↦[(rCh i).view.set]{fullShare} g) ⊢ ((rM.access (rRect i)).loc (c : Thread nD τ) ↦[(rCh i).view.set]{fullShare} g) from .rfl) $$ Hr
  iapply (wp_load_rect 𝒱₀ (c : Thread nD τ) none Set.univ (m := lM) (r := lRect i)
    (S := (lCh i).view.set) (q := fullShare) (f := f) (Finset.Subset.refl _)) $$ Hl
  iintro Hl
  iapply (wp_load_rect 𝒱₀ (c : Thread nD τ) none Set.univ (m := rM) (r := rRect i)
    (S := (rCh i).view.set) (q := fullShare) (f := g) (View.set_reshape _ _).symm.subset) $$ Hr
  iintro Hr
  iapply (wp_load_rect 𝒱₀ (c : Thread nD τ) none Set.univ (m := lM) (r := lRect i)
    (S := (lCh i).view.set) (q := fullShare) (f := f) (Finset.Subset.refl _)) $$ Hl
  iintro Hl
  iapply (wp_store 𝒱₀ (c : Thread nD τ) none Set.univ (m := lM) (r := lRect i)
    (S := (lCh i).view.set) (f := f) (Mk := Finset.univ) (Finset.Subset.refl _)) $$ Hl
  iintro Hl
  have he : chunkSum ((lM.access (lRect i)).read (Elt F) f) ((rM.access (rRect i)).read (Elt F) g) = sumCh m c i :=
    (chunkSum_eq i f g).trans (by rw [hf, hg]; rfl)
  -- the sum is lent in halves to the copy to the x-partner and the copy to the own result
  have hs : ∀ f : Buf (Elt F) ((c : Thread nD τ).loc cc0_scratch0), (lCh i).view.read (Elt F) ((lCh i).view.write (Elt F) f (sumCh m c i) Finset.univ) = sumCh m c i :=
    fun f => View.read_write_univ _ _
  ihave Hl := (show ((lM.access (lRect i)).loc (c : Thread nD τ) ↦[(lCh i).view.set]{fullShare} ((lM.access (lRect i)).write (Elt F) f
        (chunkSum ((lM.access (lRect i)).read (Elt F) f) ((rM.access (rRect i)).read (Elt F) g)) Finset.univ))
      ⊢ ((lCh i).view.loc (c : Thread nD τ) ↦[(lCh i).view.set]{fullShare} ((lCh i).view.write (Elt F) f (sumCh m c i) Finset.univ))
    from Entails.of_eq (congrArg (fun w => ((lCh i).view.loc (c : Thread nD τ) ↦[(lCh i).view.set]{fullShare} ((lCh i).view.write (Elt F) f w Finset.univ))) he)) $$ Hl
  ihave Hr := (show ((rM.access (rRect i)).loc (c : Thread nD τ) ↦[(rCh i).view.set]{fullShare} g) ⊢ ((rCh i).view.loc (c : Thread nD τ) ↦[(rCh i).view.set]{fullShare} g) from .rfl) $$ Hr
  ihave Hl := (pointsTo_share (PosShare.mem_left_op_right fullShare)).1 $$ Hl
  icases Hl with ⟨HlL, HlR⟩
  iapply (send_ch m K .xs .xr c (xP c) i (sem_xs i) (sem_xr i) (lCh i) (oCh c i) (lCh_exact i) (oCh_exact c i) rfl hL _ f'
    (owedX c (i :: l)) (owedX c l) (owedX_cons c i l)
    (owns_of_write c (lCh i) hL f _ _ rfl)
    (show _ ⊢ owns (xP c : Thread nD τ) (oCh (xP (xP c)) i) fullShare (sumCh m (xP (xP c)) i) by
      rw [xP_xP]; exact owns_of_write (xP c) (oCh c i) fullShare f' _ _ (hs f))) $$ [HlL Ho' HO HtS HtR]
  · isplitr; · iexact HK
    isplitl [HO]; · iexact HO
    isplitl [HlL]; · iexact HlL
    isplitl [Ho']; · iexact Ho'
    isplitl [HtS] <;> iassumption
  iintro ⟨HO, HcS⟩
  iapply (copy_here m K (wsem .ow i) N c (sem_ow i) (lCh i) (oCh c i) (lCh_exact i) (oCh_exact c i) rfl (amount_ch m c .ow i false) hR _ f''
    (by
      rw [payload_ch]
      exact BIClass.sep_mono (owns_of_write c (oCh c i) fullShare f'' _ _ (hs f)) (owns_of_write c (lCh i) hR f _ _ rfl))) $$ [HlR Ho HtO]
  · isplitr; · iexact HK
    isplitl [HlR]; · iexact HlR
    isplitl [Ho]; · iexact Ho
    iexact HtO
  iintro HcO
  iapply Hk
  isplitl [HO]; · iexact HO
  isplitl [Hz]; · iexact Hz
  isplitl [Hr]
  · iexists g
    isplitr; · ipureintro; exact hg
    iexact Hr
  isplitl [HcS] <;> iassumption

/-! ## Waiting for a chunk's four copies -/

/-- The rights chunk `i`'s closing waits use, beyond the credits of the copies the device started itself. -/
def closeTok (c : Dev nD) (i : Fin 8) : sProp 𝕄 :=
  iprop(cred (tallyAt (chCell .xr c i) () N) ∗ atPos ER (chCell .zs c i) 0 ∅ 0 ∗ atPos ER (chCell .xs c i) 0 ∅ 0
    ∗ atPos ER (chCell .xr c i) 0 ∅ 0 ∗ atPos ER (chCell .ow c i) 0 ∅ 0)

/-- What the closing waits of chunk `i` give. -/
def closeGot (c : Dev nD) (i : Fin 8) : sProp 𝕄 :=
  iprop((semVal (chCell .zs c i) 0 ∗ semVal (chCell .xs c i) 0 ∗ semVal (chCell .xr c i) 0 ∗ semVal (chCell .ow c i) 0)
    ∗ xOutAt c i (xB m c) ∗ lAt c i fullShare (sumCh m c i) ∗ oAt c c i (sumCh m c i) ∗ oAt c (xP c) i (sumCh m (xP c) i))

theorem closeStep_step (c : Dev nD) (i : Fin 8) (k : Pg F) (Q : PUnit → sProp 𝕄) :
    iprop(known m K ∗ owesE c 0
        ∗ (cred (tallyAt (chCell .zs c i) () N) ∗ cred (tallyAt (chCell .xs c i) () N) ∗ cred (tallyAt (chCell .ow c i) () N) ∗ closeTok c i))
      ⊢ iprop(((owesE c 0 ∗ closeGot m c i) -∗ WP c k Q) -∗ WP c (closeStep c i k) Q) := by
  have h0 : ∀ sm : SemLoc sig, (levAts L lv : sProp 𝕄) ⊢ MayWait (c : Thread nD τ) sm () 0 := fun sm => by
    rw [MayWait_zero]; iintro -; iempintro
  unfold closeStep closeTok
  iintro ⟨#HK, HO, HcZ, HcX, HcW, HcR, HaZ, HaX, HaR, HaW⟩ Hk
  iapply (wait_ch m K .zs c i (sem_zs i) (rCh i) (xOut c i) (rCh_exact i) (xOut_exact c i) rfl 0 (h0 _)) $$ [HO HcZ HaZ]
  · isplitr; · iexact HK
    isplitl [HO]; · iexact HO
    isplitl [HcZ] <;> iassumption
  iintro ⟨HO, HzZ, HpZ⟩
  iapply (wait_ch m K .xs c i (sem_xs i) (oCh c i) (lCh i) (oCh_exact c i) (lCh_exact i) rfl 0 (h0 _)) $$ [HO HcX HaX]
  · isplitr; · iexact HK
    isplitl [HO]; · iexact HO
    isplitl [HcX] <;> iassumption
  iintro ⟨HO, HzX, HpX⟩
  iapply (wait_ch m K .xr c i (sem_xr i) (lCh i) (oCh c i) (lCh_exact i) (oCh_exact c i) rfl 0 (h0 _)) $$ [HO HcR HaR]
  · isplitr; · iexact HK
    isplitl [HO]; · iexact HO
    isplitl [HcR] <;> iassumption
  iintro ⟨HO, HzR, HpR⟩
  iapply (wait_ch m K .ow c i (sem_ow i) (lCh i) (oCh c i) (lCh_exact i) (oCh_exact c i) rfl 0 (h0 _)) $$ [HO HcW HaW]
  · isplitr; · iexact HK
    isplitl [HO]; · iexact HO
    isplitl [HcW] <;> iassumption
  iintro ⟨HO, HzW, HpW⟩
  ihave HpW := (show chPay m c i .ow ⊢ iprop(oAt c c i (sumCh m c i) ∗ lAt c i hR (sumCh m c i)) from .rfl) $$ HpW
  icases HpW with ⟨HoW, HlW⟩
  iapply Hk
  isplitl [HO]; · iexact HO
  unfold closeGot
  ihave HpZ := (show chPay m c i .zs ⊢ xOutAt c i (xB m c) from .rfl) $$ HpZ
  ihave HpX := (show chPay m c i .xs ⊢ lAt c i hL (sumCh m c i) from .rfl) $$ HpX
  ihave HpR := (show chPay m c i .xr ⊢ oAt c (xP c) i (sumCh m (xP c) i) from .rfl) $$ HpR
  isplitl [HzZ HzX HzR HzW]
  · isplitl [HzZ]; · iexact HzZ
    isplitl [HzX]; · iexact HzX
    isplitl [HzR] <;> iassumption
  isplitl [HpZ]; · iexact HpZ
  isplitl [HpX HlW]
  · iapply (lAt_join c i (sumCh m c i))
    isplitl [HpX]; · iexact HpX
    iexact HlW
  isplitl [HoW]; · iexact HoW
  iexact HpR

/-! ## All chunks -/

/-- Steps proved for one chunk, what is owed falling from list to list, run for all chunks. -/
theorem wp_list (c : Dev nD) (step : Fin 8 → Pg F → Pg F) (O : List (Fin 8) → CellTallies nD τ sig Unit) (P R : Fin 8 → sProp 𝕄)
    (hstep : ∀ i l k Q, iprop(known m K ∗ owesE c (O (i :: l)) ∗ P i) ⊢ iprop(((owesE c (O l) ∗ R i) -∗ WP c k Q) -∗ WP c (step i k) Q))
    (l : List (Fin 8)) (k : Pg F) (Q : PUnit → sProp 𝕄) :
    iprop(known m K ∗ owesE c (O l) ∗ bigSepL l P) ⊢ iprop(((owesE c (O []) ∗ bigSepL l R) -∗ WP c k Q) -∗ WP c (l.foldr step k) Q) := by
  induction l with
  | nil =>
    rw [bigSepL_nil, bigSepL_nil, List.foldr_nil]
    iintro ⟨-, HO, -⟩ Hk
    iapply Hk
    isplitl [HO]; · iexact HO
    iempintro
  | cons i l ih =>
    have hb (Φ : Fin 8 → sProp 𝕄) : bigSepL (i :: l) Φ = iprop(Φ i ∗ bigSepL l Φ) := bigSepL_cons i l Φ
    rw [hb, hb, List.foldr_cons]
    iintro ⟨#HK, HO, Hi, Hl⟩ Hk
    iapply (hstep i l (l.foldr step k) Q) $$ [HO Hi]
    · isplitr; · iexact HK
      isplitl [HO] <;> iassumption
    iintro ⟨HO, HR⟩
    iapply ih $$ [HO Hl]
    · isplitr; · iexact HK
      isplitl [HO] <;> iassumption
    iintro ⟨HO, HRl⟩
    iapply Hk
    isplitl [HO]; · iexact HO
    isplitl [HR] <;> iassumption

theorem wp_chunks (c : Dev nD) (step : Fin 8 → Pg F → Pg F) (O : List (Fin 8) → CellTallies nD τ sig Unit) (P R : Fin 8 → sProp 𝕄)
    (hstep : ∀ i l k Q, iprop(known m K ∗ owesE c (O (i :: l)) ∗ P i) ⊢ iprop(((owesE c (O l) ∗ R i) -∗ WP c k Q) -∗ WP c (step i k) Q))
    (k : Pg F) (Q : PUnit → sProp 𝕄) :
    iprop(known m K ∗ owesE c (O chunks) ∗ bigSep Finset.univ P)
      ⊢ iprop(((owesE c (O []) ∗ bigSep Finset.univ R) -∗ WP c k Q) -∗ WP c (chunks.foldr step k) Q) := by
  rw [bigSep_univ_eq_bigSepL chunks (by decide) (by decide), bigSep_univ_eq_bigSepL chunks (by decide) (by decide)]
  exact wp_list m K c step O P R hstep chunks k Q

/-! ## The start -/

/-- The rights the start uses. -/
def openTok (c : Dev nD) : sProp 𝕄 :=
  iprop(dutyTok ER (ownCell c) 0 false ∗ dutyTok ER (barCell (zP c)) 0 false ∗ dutyTok ER (barCell (xP c)) 0 true
    ∗ cred (tallyAt (barCell c) () 2) ∗ atPos ER (barCell c) 0 ∅ 0)

/-- The copy of the kept part is started, and the handshake exchanges the places the partners write. -/
theorem opening_step (c : Dev nD) (k : Pg F) (Q : PUnit → sProp 𝕄) (f : Buf (Elt F) ((c : Thread nD τ).loc cc0_scratch0)) :
    iprop(known m K ∗ owesE c (owed₀ c) ∗ openTok c ∗ xOwnAt c (xB m c) ∗ (((c : Thread nD τ).loc cc0_scratch0) ↦{fullShare} f)
        ∗ (bigSep Finset.univ fun i => iprop(∃ X, rAt c i X)) ∗ (bigSep Finset.univ fun i => iprop(∃ X, oAt c (xP c) i X)))
      ⊢ iprop(((owesE c (owedZ c chunks) ∗ cred (tallyAt (ownCell c) () NL) ∗ semVal (barCell c) 0
            ∗ (bigSep Finset.univ fun i => iprop(∃ X, rAt (zP c) i X)) ∗ (bigSep Finset.univ fun i => iprop(∃ X, oAt (xP c) c i X)))
          -∗ WP c k Q) -∗ WP c (opening c k) Q) := by
  have hw : (((c : Thread nD τ).loc cc0_scratch0) ↦{fullShare} f : sProp 𝕄)
      ⊢ ((lM : Memref sig .tc .vmem S256x512 .f32).view.loc (c : Thread nD τ) ↦[(lM : Memref sig .tc .vmem S256x512 .f32).view.set]{fullShare} f) :=
    Entails.of_eq (by rw [show (lM : Memref sig .tc .vmem S256x512 .f32).view.set = Finset.univ from View.set_whole _])
  have hw' : ∀ w : S256x512.Idx → Elt F .f32,
      ((lM : Memref sig .tc .vmem S256x512 .f32).view.loc (c : Thread nD τ) ↦[(lM : Memref sig .tc .vmem S256x512 .f32).view.set]{fullShare}
        ((lM : Memref sig .tc .vmem S256x512 .f32).view.write (Elt F) f w Finset.univ) : sProp 𝕄)
      ⊢ (((c : Thread nD τ).loc cc0_scratch0) ↦{fullShare} (w : Buf (Elt F) ((c : Thread nD τ).loc cc0_scratch0))) := fun w =>
    (owns_of_write c lM fullShare f w w rfl).trans (Entails.of_eq (owns_whole (c : Thread nD τ) cc0_scratch0 fullShare w))
  unfold opening openTok owesE
  iintro ⟨#HK, ⟨%W, HO⟩, ⟨HtO, HtZ, HtX, Hc, Hat⟩, Hx, Hl, Hr, Ho⟩ Hk
  ihave Hl := hw $$ Hl
  iapply (copy_here m K ownSem NL c sem_own (xOwn c) lM ((View.wordExact_bits rfl).reshape _ _) (Memref.isWhole_whole _).wordExact rfl (amount_own m c false)
    xq' (xB m c) f
    (by
      rw [payload_own]
      unfold ownPay
      exact BIClass.sep_mono (hw' _) .rfl)) $$ [Hx Hl HtO]
  · isplitr; · iexact HK
    isplitl [Hx]; · unfold xOwnAt; iexact Hx
    isplitl [Hl]; · iexact Hl
    iexact HtO
  iintro HcO
  iapply (Rounds.wp_signal 𝒱₀ ER (sched m) (c : Thread nD τ) none (dst := (zP c : Thread nD τ)) (κ := K (zP c, none))
      (d := false) (by rw [duties_bar]; exact Finset.mem_univ _) (amount_bar m (zP c) false) () (owed₁ c) rfl) $$ [HO HtZ Hr]
  · isplitr; · iapply (known_inv m K (zP c, none)); iexact HK
    isplitl [HO]; · iexact HO
    isplitl [HtZ]; · iexact HtZ
    isplitl [Hr]
    · rw [payload_bar]
      iapply (show (bigSep Finset.univ fun i => iprop(∃ X, rAt c i X) : sProp 𝕄) ⊢ barPay (zP c) false from
        Entails.of_eq (by show _ = bigSep Finset.univ fun i => iprop(∃ X, rAt (zP (zP c)) i X); rw [zP_zP]))
      iexact Hr
    iapply (known_reached m K (zP c, none)); iexact HK
  iintro HO
  iapply (Rounds.wp_signal 𝒱₀ ER (sched m) (c : Thread nD τ) none (dst := (xP c : Thread nD τ)) (κ := K (xP c, none))
      (d := true) (by rw [duties_bar]; exact Finset.mem_univ _) (amount_bar m (xP c) true) () (owedZ c chunks) rfl) $$ [HO HtX Ho]
  · isplitr; · iapply (known_inv m K (xP c, none)); iexact HK
    isplitl [HO]; · iexact HO
    isplitl [HtX]; · iexact HtX
    isplitl [Ho]
    · rw [payload_bar]
      iapply (show (bigSep Finset.univ fun i => iprop(∃ X, oAt c (xP c) i X) : sProp 𝕄) ⊢ barPay (xP c) true from
        Entails.of_eq (by show _ = bigSep Finset.univ fun i => iprop(∃ X, oAt (xP (xP c)) (xP c) i X); rw [xP_xP]))
      iexact Ho
    iapply (known_reached m K (xP c, none)); iexact HK
  iintro HO
  iapply (Rounds.wp_wait_rest_token 𝒱₀ ER (sched m) (c : Thread nD τ) none (κ := K (c, none))
      (wpE_semWait_eq 𝒱₀ (c : Thread nD τ) none Set.univ) (Set.mem_univ _) () (O := owedZ c chunks) (W := W) (R := 0) (m := 0) (T := ∅)
      (by rw [Nat.zero_add, expect_bar])) $$ [Hc HO Hat]
  · isplitr; · iapply (known_inv m K (c, none)); iexact HK
    isplitl [Hc]; · iexact Hc
    isplitl [HO]; · iexact HO
    isplitr; · iapply (mayWait_bar c); iapply (known_levels m K); iexact HK
    iexact Hat
  iintro ⟨HO, Hat, -, Hpay⟩
  ihave Hpay := (Entails.of_eq (rest_bar m c)) $$ Hpay
  icases Hpay with ⟨HrZ, HoX⟩
  imod (Rounds.cell_close ER (sched m) (Set.mem_univ (K (c, none))) (fun h => h) (R := 0 + 1) (duties_later m (barCell c))) $$ [Hat] with Hz
  · isplitr; · iapply (known_inv m K (c, none)); iexact HK
    iexact Hat
  iapply Hk
  isplitl [HO]; · iexists _; iexact HO
  isplitl [HcO]; · iexact HcO
  isplitl [Hz]; · iexact Hz
  isplitl [HrZ] <;> iassumption

/-! ## The whole program -/

/-- All a device's rights at the start. -/
def startTok (c : Dev nD) : sProp 𝕄 :=
  iprop(openTok c ∗ atPos ER (ownCell c) 0 ∅ 0 ∗ (bigSep Finset.univ fun i => sendTok c i) ∗ (bigSep Finset.univ fun i => sumTok c i)
    ∗ bigSep Finset.univ fun i => closeTok c i)

/-- The buffers and what is owed at the start. -/
def bodyPre (c : Dev nD) : sProp 𝕄 :=
  iprop(startTok c ∗ owesE c (owed₀ c) ∗ (((c : Thread nD τ).loc main_arg0) ↦{fullShare} xB m c)
    ∗ (∃ f, ((c : Thread nD τ).loc main_v1) ↦{fullShare} f)
    ∗ (∃ f, ((c : Thread nD τ).loc cc0_scratch0) ↦{fullShare} f) ∗ (∃ f, ((c : Thread nD τ).loc cc0_scratch1) ↦{fullShare} f))

/-- The semaphores of a device, at zero. -/
def zeros (c : Dev nD) : sProp 𝕄 :=
  iprop(semVal (barCell c) 0 ∗ semVal (ownCell c) 0 ∗ (bigSep Finset.univ fun i => semVal (chCell .zr c i) 0)
    ∗ bigSep Finset.univ fun i => iprop(semVal (chCell .zs c i) 0 ∗ semVal (chCell .xs c i) 0 ∗ semVal (chCell .xr c i) 0 ∗ semVal (chCell .ow c i) 0))

/-- The result of device `c` holds the finished chunks of its own half of the rows and of the x-partner's. -/
def Done (c : Dev nD) (g : Buf (Elt F) ((c : Thread nD τ).loc main_v1)) : Prop :=
  (∀ i, (oCh c i).view.read (Elt F) g = sumCh m c i) ∧ ∀ i, (oCh (xP c) i).view.read (Elt F) g = sumCh m (xP c) i

/-- The buffers and semaphores at the end. -/
def bodyPost (c : Dev nD) : sProp 𝕄 :=
  iprop(owesE c 0 ∗ (((c : Thread nD τ).loc main_arg0) ↦{fullShare} xB m c)
    ∗ (∃ g, ⌜Done m c g⌝ ∗ (((c : Thread nD τ).loc main_v1) ↦{fullShare} g))
    ∗ (∃ f, ((c : Thread nD τ).loc cc0_scratch0) ↦{fullShare} f) ∗ (∃ f, ((c : Thread nD τ).loc cc0_scratch1) ↦{fullShare} f) ∗ zeros c)

omit [FloatOps F] in
theorem bigSep_five (A B C D E : Fin 8 → sProp 𝕄) : (bigSep Finset.univ fun i => iprop(A i ∗ B i ∗ C i ∗ D i ∗ E i))
    = iprop((bigSep Finset.univ A) ∗ (bigSep Finset.univ B) ∗ (bigSep Finset.univ C) ∗ (bigSep Finset.univ D) ∗ bigSep Finset.univ E) := by
  rw [bigSep_sep', bigSep_sep', bigSep_sep', bigSep_sep']

set_option maxHeartbeats 800000 in
/-- The program of a device runs from the start's resources to the end's. -/
theorem prog_runs (c : Dev nD) (Q : PUnit → sProp 𝕄) :
    iprop(known m K ∗ bodyPre m c) ⊢ iprop((bodyPost m c -∗ Q ⟨⟩) -∗ WP c (chunkedProg (F := F)) Q) := by
  have hP1 : iprop((bigSep Finset.univ fun i => xOutAt c i (xB m c)) ∗ (bigSep Finset.univ fun i => iprop(∃ X, rAt (zP c) i X)) ∗ (bigSep Finset.univ fun i => sendTok c i))
      ⊢ (bigSep Finset.univ fun i => iprop(xOutAt c i (xB m c) ∗ (∃ X, rAt (zP c) i X) ∗ sendTok c i) : sProp 𝕄) :=
    Entails.of_eq (by rw [bigSep_sep', bigSep_sep'])
  have hP2 : iprop((bigSep Finset.univ fun i => lAt c i fullShare (keptCh m c i)) ∗ (bigSep Finset.univ fun i => iprop(∃ X, oAt (xP c) c i X))
        ∗ (bigSep Finset.univ fun i => iprop(∃ X, oAt c c i X)) ∗ (bigSep Finset.univ fun i => sumTok c i))
      ⊢ (bigSep Finset.univ fun i => iprop(lAt c i fullShare (keptCh m c i) ∗ (∃ X, oAt (xP c) c i X) ∗ (∃ X, oAt c c i X) ∗ sumTok c i) : sProp 𝕄) :=
    Entails.of_eq (by rw [bigSep_sep', bigSep_sep', bigSep_sep'])
  have hR2 : (bigSep Finset.univ fun i => iprop(semVal (chCell .zr c i) 0 ∗ rAt c i (sentCh m (zP c) i) ∗ cred (tallyAt (chCell .xs c i) () N) ∗ cred (tallyAt (chCell .ow c i) () N)) : sProp 𝕄)
      ⊢ iprop((bigSep Finset.univ fun i => semVal (chCell .zr c i) 0) ∗ (bigSep Finset.univ fun i => rAt c i (sentCh m (zP c) i))
        ∗ (bigSep Finset.univ fun i => cred (tallyAt (chCell .xs c i) () N)) ∗ (bigSep Finset.univ fun i => cred (tallyAt (chCell .ow c i) () N))) :=
    Entails.of_eq (by rw [bigSep_sep', bigSep_sep', bigSep_sep'])
  have hP3 : iprop((bigSep Finset.univ fun i => cred (tallyAt (chCell .zs c i) () N)) ∗ (bigSep Finset.univ fun i => cred (tallyAt (chCell .xs c i) () N))
        ∗ (bigSep Finset.univ fun i => cred (tallyAt (chCell .ow c i) () N)) ∗ (bigSep Finset.univ fun i => closeTok c i))
      ⊢ (bigSep Finset.univ fun i => iprop(cred (tallyAt (chCell .zs c i) () N) ∗ cred (tallyAt (chCell .xs c i) () N) ∗ cred (tallyAt (chCell .ow c i) () N) ∗ closeTok c i) : sProp 𝕄) :=
    Entails.of_eq (by rw [bigSep_sep', bigSep_sep', bigSep_sep'])
  have hR3 : (bigSep Finset.univ fun i => closeGot m c i : sProp 𝕄)
      ⊢ iprop((bigSep Finset.univ fun i => iprop(semVal (chCell .zs c i) 0 ∗ semVal (chCell .xs c i) 0 ∗ semVal (chCell .xr c i) 0 ∗ semVal (chCell .ow c i) 0))
        ∗ (bigSep Finset.univ fun i => xOutAt c i (xB m c)) ∗ (bigSep Finset.univ fun i => lAt c i fullShare (sumCh m c i))
        ∗ (bigSep Finset.univ fun i => oAt c c i (sumCh m c i)) ∗ (bigSep Finset.univ fun i => oAt c (xP c) i (sumCh m (xP c) i))) := by
    exact Entails.of_eq (bigSep_five _ _ _ _ _)
  unfold bodyPre startTok chunkedProg WP
  rw [wp_deviceId]
  iintro ⟨#HK, ⟨Hopen, HaO, Hsend, Hsum, Hclose⟩, HO, Hx, ⟨%fo, Hout⟩, ⟨%fl, Hl⟩, ⟨%fr, Hr⟩⟩ Hk
  ihave Hx := (x_lend c (xB m c)) $$ Hx
  icases Hx with ⟨⟨HxO, HxS⟩, Hback⟩
  ihave Hr := (recv_cut c fr) $$ Hr
  ihave Hout := (out_cut c fo) $$ Hout
  icases Hout with ⟨HoC, HoX⟩
  iapply (opening_step m K c _ Q fl) $$ [HO Hopen HxO Hl Hr HoX]
  · isplitr; · iexact HK
    isplitl [HO]; · iexact HO
    isplitl [Hopen]; · iexact Hopen
    isplitl [HxO]; · iexact HxO
    isplitl [Hl]; · iexact Hl
    isplitl [Hr] <;> iassumption
  iintro ⟨HO, HcO, HzB, HrZ, HoX⟩
  -- all chunks to the z-partner
  iapply (wp_chunks m K c (sendZ c) (owedZ c) (fun i => iprop(xOutAt c i (xB m c) ∗ (∃ X, rAt (zP c) i X) ∗ sendTok c i))
    (fun i => cred (tallyAt (chCell .zs c i) () N)) (fun i l k Q => sendZ_step m K c i l k Q) _ Q) $$ [HO HxS HrZ Hsend]
  · isplitr; · iexact HK
    isplitl [HO]; · iexact HO
    iapply hP1
    isplitl [HxS]; · iexact HxS
    isplitl [HrZ] <;> iassumption
  iintro ⟨HO, HcZ⟩
  rw [owedZ_nil]
  -- the kept part has arrived
  unfold waitOwn
  iapply (wait_own m K c sem_own (h₁ := (View.wordExact_bits rfl).reshape _ _) (h₂ := (Memref.isWhole_whole _).wordExact)) $$ [HO HcO HaO]
  · isplitr; · iexact HK
    isplitl [HO]; · iexact HO
    isplitl [HcO] <;> iassumption
  unfold ownPay
  iintro ⟨HO, HzO, Hl, HxO⟩
  ihave Hl := (local_cut c (kept m c)) $$ Hl
  -- the sums
  iapply (wp_chunks m K c (sumStep c) (owedX c) (fun i => iprop(lAt c i fullShare (keptCh m c i) ∗ (∃ X, oAt (xP c) c i X) ∗ (∃ X, oAt c c i X) ∗ sumTok c i))
    (fun i => iprop(semVal (chCell .zr c i) 0 ∗ rAt c i (sentCh m (zP c) i) ∗ cred (tallyAt (chCell .xs c i) () N) ∗ cred (tallyAt (chCell .ow c i) () N)))
    (fun i l k Q => sumStep_step m K c i l k Q) _ Q) $$ [HO Hl HoX HoC Hsum]
  · isplitr; · iexact HK
    isplitl [HO]; · iexact HO
    iapply hP2
    isplitl [Hl]; · unfold keptCh; iexact Hl
    isplitl [HoX]; · iexact HoX
    isplitl [HoC] <;> iassumption
  iintro ⟨HO, HR⟩
  ihave HR := hR2 $$ HR
  icases HR with ⟨HzR, Hr, HcX, HcW⟩
  rw [owedX_nil]
  -- the closing waits
  iapply (wp_chunks m K c (closeStep c) (fun _ => 0) (fun i => iprop(cred (tallyAt (chCell .zs c i) () N) ∗ cred (tallyAt (chCell .xs c i) () N) ∗ cred (tallyAt (chCell .ow c i) () N) ∗ closeTok c i))
    (fun i => closeGot m c i) (fun i l k Q => closeStep_step m K c i k Q) _ Q) $$ [HO HcZ HcX HcW Hclose]
  · isplitr; · iexact HK
    isplitl [HO]; · iexact HO
    iapply hP3
    isplitl [HcZ]; · iexact HcZ
    isplitl [HcX]; · iexact HcX
    isplitl [HcW] <;> iassumption
  iintro ⟨HO, HR⟩
  ihave HR := hR3 $$ HR
  icases HR with ⟨Hz4, HxS, Hl, HoC, HoX⟩
  ihave Hx := Hback $$ [HxO HxS]
  · isplitl [HxO] <;> iassumption
  ihave Hl := (local_join c fl (sumCh m c)) $$ Hl
  ihave Hr := (recv_join c fr (sentCh m (zP c))) $$ Hr
  ihave Hout := (out_join c fo (sumCh m c) (sumCh m (xP c))) $$ [HoC HoX]
  · isplitl [HoC] <;> iassumption
  unfold WP; rw [wp_ret]; imodintro
  iapply Hk
  unfold bodyPost zeros Done
  isplitl [HO]; · iexact HO
  isplitl [Hx]; · iexact Hx
  isplitl [Hout]; · iexact Hout
  isplitl [Hl]; · iexact Hl
  isplitl [Hr]; · iexact Hr
  isplitl [HzB]; · iexact HzB
  isplitl [HzO]; · iexact HzO
  isplitl [HzR] <;> iassumption

end Cert.KernelIdeal.Chunked

end
-- ==== Proof.Deal.lean ====
/-
How the launch deals the rights: the semaphores' records are made for all devices at once, each device keeps its own
positions, and the right to raise a semaphore goes to the device that raises it.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Chunked

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A product over all semaphores of a device -/

/-- A product over an optional index is the factor of `none` and the product over the rest. -/
theorem bigSep_opt {I : Type} [Fintype I] [DecidableEq I] (Φ : Option I → sProp 𝕄) :
    bigSep Finset.univ Φ = iprop(Φ none ∗ bigSep Finset.univ fun i => Φ (some i)) := by
  have h : (Finset.univ : Finset (Option I)).erase none = Finset.univ.map Function.Embedding.some := by
    ext x
    cases x <;> simp
  rw [bigSep_univ_at Φ none, h, bigSep_map]
  rfl

instance : Fintype Way := ⟨{.ow, .zs, .zr, .xs, .xr}, fun w => by cases w <;> decide⟩

/-- The copy semaphores are the first copy's and the five of each chunk. -/
def semEquiv : Option (Way × Fin 8) ≃ Fin 41 where
  toFun p := p.elim ownSem fun q => wsem q.1 q.2
  invFun := wayOf
  left_inv p := by
    cases p with
    | none => exact wayOf_own
    | some q => exact wayOf_wsem q.1 q.2
  right_inv := by decide +kernel

/-- A product over the copy semaphores, way by way. -/
theorem bigSep_dma (Φ : Fin 41 → sProp 𝕄) :
    bigSep Finset.univ Φ = iprop(Φ ownSem ∗ (bigSep Finset.univ fun i => Φ (wsem .ow i)) ∗ (bigSep Finset.univ fun i => Φ (wsem .zs i))
      ∗ (bigSep Finset.univ fun i => Φ (wsem .zr i)) ∗ (bigSep Finset.univ fun i => Φ (wsem .xs i)) ∗ bigSep Finset.univ fun i => Φ (wsem .xr i)) := by
  rw [bigSep_univ_equiv semEquiv Φ, bigSep_opt, bigSep_univ_prod,
    bigSep_univ_eq_bigSepL [Way.ow, .zs, .zr, .xs, .xr] (by decide) (by decide),
    bigSepL_cons_cons, bigSepL_cons_cons, bigSepL_cons_cons, bigSepL_cons_cons, bigSepL_singleton]
  rfl

/-! ## The cells and the duties -/

theorem csem_injective : Function.Injective csem := by
  intro a b h
  cases a <;> cases b
  · rfl
  · exact absurd h (by simp [csem])
  · exact absurd h (by simp [csem])
  · exact congrArg some (SemLoc.dma.inj h)

theorem kcell_injective : Function.Injective (kcell : Dev nD × Option (Fin 41) → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

/-- All semaphores of all devices. -/
def allCells : Finset (GSem nD τ sig) := Finset.univ.map ⟨kcell, kcell_injective⟩

/-- The duties of device `c`'s semaphores: `false` of each, and the handshake's `true`. -/
def dutyAt (cj : Dev nD × Option (Option (Fin 41))) : GSem nD τ sig × ℕ × Bool :=
  match cj.2 with
  | none => (kcell (cj.1, none), 0, true)
  | some k => (kcell (cj.1, k), 0, false)

theorem dutyAt_injective : Function.Injective dutyAt := by
  rintro ⟨c, j⟩ ⟨c', j'⟩ h
  cases j <;> cases j'
  · have h1 : c = c' := congrArg (fun x : GSem nD τ sig × ℕ × Bool => x.1.1.1) h
    subst h1; rfl
  · exact absurd (congrArg (fun x : GSem nD τ sig × ℕ × Bool => x.2.2) h) (by simp [dutyAt])
  · exact absurd (congrArg (fun x : GSem nD τ sig × ℕ × Bool => x.2.2) h) (by simp [dutyAt])
  · have h1 := kcell_injective (congrArg (fun x : GSem nD τ sig × ℕ × Bool => x.1) h)
    obtain ⟨rfl, rfl⟩ := Prod.mk.inj h1
    rfl

/-- All duties. -/
def allDuties : Finset (GSem nD τ sig × ℕ × Bool) := Finset.univ.map ⟨dutyAt, dutyAt_injective⟩

/-- The ghost state at launch. -/
def u₀ : UU := (initOf (Pipeline.cells cfgs cellOf_inj) (Pipeline.launchToks cfgs cellOf_inj), initOf allCells allDuties)

/-! ## Rights, before and after dealing -/

/-- The duties of device `c`'s own semaphores. -/
def ownToks (c : Dev nD) : sProp 𝕄 :=
  bigSep Finset.univ fun j : Option (Option (Fin 41)) => dutyTok ER (dutyAt (c, j)).1 (dutyAt (c, j)).2.1 (dutyAt (c, j)).2.2

/-- Device `c`'s positions at all its semaphores. -/
def positions (c : Dev nD) : sProp 𝕄 := bigSep Finset.univ fun k : Option (Fin 41) => atPos ER (kcell (c, k)) 0 ∅ 0

/-- The duties device `c` performs: its own copies', the handshake units at its partners, the z-partner's landings and the
    x-partner's arrivals. -/
def payToks (c : Dev nD) : sProp 𝕄 :=
  iprop(dutyTok ER (barCell (xP c)) 0 true ∗ dutyTok ER (barCell (zP c)) 0 false ∗ dutyTok ER (ownCell c) 0 false
    ∗ (bigSep Finset.univ fun i => dutyTok ER (chCell .ow c i) 0 false) ∗ (bigSep Finset.univ fun i => dutyTok ER (chCell .zs c i) 0 false)
    ∗ (bigSep Finset.univ fun i => dutyTok ER (chCell .zr (zP c) i) 0 false) ∗ (bigSep Finset.univ fun i => dutyTok ER (chCell .xs c i) 0 false)
    ∗ bigSep Finset.univ fun i => dutyTok ER (chCell .xr (xP c) i) 0 false)

/-- Exchange with the z-partner, and with the x-partner, as bijections of the devices. -/
def zEquiv : Dev nD ≃ Dev nD := ⟨zP, zP, zP_zP, zP_zP⟩
def xEquiv : Dev nD ≃ Dev nD := ⟨xP, xP, xP_xP, xP_xP⟩

theorem ownToks_eq (c : Dev nD) : (ownToks c : sProp 𝕄)
    = iprop(dutyTok ER (barCell c) 0 true ∗ dutyTok ER (barCell c) 0 false ∗ dutyTok ER (ownCell c) 0 false
      ∗ (bigSep Finset.univ fun i => dutyTok ER (chCell .ow c i) 0 false) ∗ (bigSep Finset.univ fun i => dutyTok ER (chCell .zs c i) 0 false)
      ∗ (bigSep Finset.univ fun i => dutyTok ER (chCell .zr c i) 0 false) ∗ (bigSep Finset.univ fun i => dutyTok ER (chCell .xs c i) 0 false)
      ∗ bigSep Finset.univ fun i => dutyTok ER (chCell .xr c i) 0 false) := by
  unfold ownToks
  rw [bigSep_opt, bigSep_opt, bigSep_dma]
  rfl

/-- Every duty goes to the device that performs it. -/
theorem toks_dealt : (bigSep Finset.univ fun c => (ownToks c : sProp 𝕄)) ⊢ bigSep Finset.univ fun c => payToks c := by
  rw [bigSep_congr fun c _ => ownToks_eq c]
  unfold payToks
  simp only [bigSep_sep']
  rw [bigSep_univ_equiv xEquiv fun c => (dutyTok ER (barCell c) 0 true : sProp 𝕄),
    bigSep_univ_equiv zEquiv fun c => (dutyTok ER (barCell c) 0 false : sProp 𝕄),
    bigSep_univ_equiv zEquiv fun c => (bigSep Finset.univ fun i => dutyTok ER (chCell .zr c i) 0 false : sProp 𝕄),
    bigSep_univ_equiv xEquiv fun c => (bigSep Finset.univ fun i => dutyTok ER (chCell .xr c i) 0 false : sProp 𝕄)]
  exact .rfl

variable (m : (ℓ : Loc nD τ sig) → Buf (Elt F) ℓ)

/-- What the launch deals device `c` at first: the states and positions of its semaphores and their duties. -/
def G (c : Dev nD) : sProp 𝕄 :=
  iprop((bigSep Finset.univ fun k : Option (Fin 41) => roundState ER (sched m) (kcell (c, k)) 0)
    ∗ (bigSep Finset.univ fun k : Option (Fin 41) => reached ER (kcell (c, k)) 0) ∗ positions c ∗ ownToks c)

/-- The invariants of all semaphores and the round each has reached. -/
def records (K : Dev nD × Option (Fin 41) → ℕ) : sProp 𝕄 :=
  iprop((bigSep Finset.univ fun ck => cellInv ER (sched m) (K ck) (kcell ck)) ∗ bigSep Finset.univ fun ck => reached ER (kcell ck) 0)

instance records_persistent (K : Dev nD × Option (Fin 41) → ℕ) : BI.Persistent (records m K) := by unfold records; infer_instance

/-- What device `c` holds when the rights are dealt. -/
def G' (c : Dev nD) : sProp 𝕄 := iprop(∃ K, records m K ∗ positions c ∗ payToks c)

theorem fund_cells : BI.own (ER (initOf allCells allDuties)) ⊢ (|==> bigSep Finset.univ (G m) : sProp 𝕄) := by
  have hX (Φ : GSem nD τ sig → sProp 𝕄) :
      bigSep allCells Φ = bigSep Finset.univ fun c : Dev nD => bigSep Finset.univ fun k : Option (Fin 41) => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => ownToks c := by
    unfold allDuties; rw [bigSep_map, bigSep_univ_prod]; rfl
  iintro HX
  imod (Rounds.fund ER (sched m) allCells allDuties) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G positions; simp only [bigSep_sep']
  isplitl [Hst]; · iexact Hst
  isplitl [Hr]; · iexact Hr
  isplitl [Hat] <;> iassumption

/-- The copy semaphores are the kernel's own; the handshake's is not. -/
def osem (k : Fin 41) : SemLoc sig := .dma k

theorem unscoped_eq (c : Dev nD) : (unscopedSems0 c : sProp 𝕄) = semVal (barCell c) 0 := by
  unfold unscopedSems0; rw [bigSep_eq_bigSepL_of_eq [SemLoc.reg barSem] (by decide) (by decide)]; rfl

theorem own_eq (c : Dev nD) : (Pipeline.ownSems0 (Ix := Unit) (Name := ℕ) (U := UU) (Lvl := ℕ) (Val := Elt F) (τ := τ) osem c : sProp 𝕄)
    = iprop(semVal (ownCell c) 0 ∗ (bigSep Finset.univ fun i => semVal (chCell .ow c i) 0) ∗ (bigSep Finset.univ fun i => semVal (chCell .zs c i) 0)
      ∗ (bigSep Finset.univ fun i => semVal (chCell .zr c i) 0) ∗ (bigSep Finset.univ fun i => semVal (chCell .xs c i) 0)
      ∗ bigSep Finset.univ fun i => semVal (chCell .xr c i) 0) := by
  unfold Pipeline.ownSems0
  rw [bigSep_dma]
  rfl

/-- The invariants of one device's semaphores are made from their counters at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => reached ER (kcell (c, k)) 0) ∗ positions c ∗ ownToks c) := by
  have hv : iprop(semVal (barCell c) 0 ∗ Pipeline.ownSems0 (Ix := Unit) (Name := ℕ) (U := UU) (Lvl := ℕ) (Val := Elt F) (τ := τ) osem c)
      ⊢ (bigSep Finset.univ fun k : Option (Fin 41) => semVal (kcell (c, k)) 0 : sProp 𝕄) := Entails.of_eq (by rw [bigSep_opt]; rfl)
  have ha : iprop((bigSep Finset.univ fun k : Option (Fin 41) => semVal (kcell (c, k)) 0) ∗ bigSep Finset.univ fun k : Option (Fin 41) => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [unscoped_eq]
  unfold G
  iintro ⟨Ho, Hb, Hst, Hr, Hat, Htok⟩
  ihave Hv := hv $$ [Ho Hb]
  · isplitl [Hb] <;> iassumption
  imod ha $$ [Hv Hst] with Hinv
  · isplitl [Hv] <;> iassumption
  imodintro
  isplitl [Hinv]; · iexact Hinv
  isplitl [Hr]; · iexact Hr
  isplitl [Hat] <;> iassumption

/-- What all devices share is dealt to each beside its own. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => reached ER (kcell (c, k)) 0) ∗ positions c ∗ ownToks c) : sProp 𝕄)
      ⊢ bigSep Finset.univ (G' m) := by
  rw [bigSep_sep', bigSep_sep', bigSep_sep', ← bigSep_univ_prod (fun ck : Dev nD × Option (Fin 41) => iprop(∃ κ : ℕ, cellInv ER (sched m) κ (kcell ck))),
    ← bigSep_univ_prod (fun ck : Dev nD × Option (Fin 41) => (reached ER (kcell ck) 0 : sProp 𝕄))]
  iintro ⟨HI, #HR, Hat, Htok⟩
  ihave HK := (BI.bigSep_exists_pi Finset.univ (fun (ck : Dev nD × Option (Fin 41)) (κ : ℕ) => (cellInv ER (sched m) κ (kcell ck) : sProp 𝕄))) $$ HI
  icases HK with ⟨%K, #HI⟩
  ihave Htk := (toks_dealt (F := F)) $$ Htok
  iapply (bigSep_share (R := records m K) (Φ := fun c => iprop(positions c ∗ payToks c))
    fun c _ => show iprop(records m K ∗ positions c ∗ payToks c) ⊢ G' m c from by unfold G'; exact exists_intro (Φ := fun K => iprop(records m K ∗ positions c ∗ payToks c)) K)
  isplitr
  · unfold records; isplitl; · iexact HI
    iexact HR
  · iapply (Entails.of_eq (bigSep_sep' Finset.univ (fun c : Dev nD => (positions c : sProp 𝕄)) payToks).symm)
    isplitl [Hat] <;> iassumption

/-- The semaphores of all devices are set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem creds_xr (l : List (Fin 8)) (c : Dev nD) :
    (Pipeline.launchCred (fun d => owedX d l) c : sProp 𝕄) ⊢ bigSepL l fun i => cred (tallyAt (chCell .xr c i) () N) := by
  induction l with
  | nil => rw [bigSepL_nil]; exact Entails.of_eq (Pipeline.launchCred_zero c)
  | cons i l ih =>
    have hb : bigSepL (i :: l) (fun i => (cred (tallyAt (chCell .xr c i) () N) : sProp 𝕄))
        = iprop(cred (tallyAt (chCell .xr c i) () N) ∗ bigSepL l fun i => cred (tallyAt (chCell .xr c i) () N)) := bigSepL_cons i l _
    rw [hb]
    show (Pipeline.launchCred (fun d => owedX d l + tallyAt (chCell .xr (xP d) i) () N) c : sProp 𝕄) ⊢ _
    rw [Pipeline.launchCred_add]
    iintro ⟨H1, H2⟩
    isplitl [H2]
    · iapply (Pipeline.launchCred_tallyAt (.dma (wsem .xr i)) xP xP xP_xP xP_xP () N c); iexact H2
    · iapply ih; iexact H1

theorem creds_zr (l : List (Fin 8)) (c : Dev nD) :
    (Pipeline.launchCred (fun d => owedZ d l) c : sProp 𝕄) ⊢ iprop((bigSepL l fun i => cred (tallyAt (chCell .zr c i) () N))
      ∗ bigSepL chunks fun i => cred (tallyAt (chCell .xr c i) () N)) := by
  induction l with
  | nil =>
    rw [bigSepL_nil, show (fun d : Dev nD => owedZ d []) = fun d => owedX d chunks from funext owedZ_nil]
    iintro H
    isplitr; · iempintro
    iapply (creds_xr chunks c); iexact H
  | cons i l ih =>
    have hb : bigSepL (i :: l) (fun i => (cred (tallyAt (chCell .zr c i) () N) : sProp 𝕄))
        = iprop(cred (tallyAt (chCell .zr c i) () N) ∗ bigSepL l fun i => cred (tallyAt (chCell .zr c i) () N)) := bigSepL_cons i l _
    rw [hb]
    rw [show (fun d : Dev nD => owedZ d (i :: l)) = fun d => owedZ d l + tallyAt (chCell .zr (zP d) i) () N from funext fun d => owedZ_cons d i l,
      Pipeline.launchCred_add]
    iintro ⟨H1, H2⟩
    ihave H1 := ih $$ H1
    icases H1 with ⟨H1, H3⟩
    isplitr [H3]
    · isplitl [H2]
      · iapply (Pipeline.launchCred_tallyAt (.dma (wsem .zr i)) zP zP zP_zP zP_zP () N c); iexact H2
      · iexact H1
    · iexact H3

/-- What all devices owe is what each may wait for: two handshake units, the landings and the arrivals of all chunks. -/
theorem creds (c : Dev nD) : (Pipeline.launchCred (fun d => owed₀ d) c : sProp 𝕄)
    ⊢ iprop(cred (tallyAt (barCell c) () 2) ∗ (bigSep Finset.univ fun i => cred (tallyAt (chCell .zr c i) () N))
      ∗ bigSep Finset.univ fun i => cred (tallyAt (chCell .xr c i) () N)) := by
  rw [bigSep_univ_eq_bigSepL chunks (by decide) (by decide), bigSep_univ_eq_bigSepL chunks (by decide) (by decide)]
  show (Pipeline.launchCred (fun d => (owedZ d chunks + tallyAt (barCell (xP d)) () 1) + tallyAt (barCell (zP d)) () 1) c : sProp 𝕄) ⊢ _
  rw [Pipeline.launchCred_add, Pipeline.launchCred_add]
  iintro ⟨⟨H1, HX⟩, HZ⟩
  ihave HX := (Pipeline.launchCred_tallyAt (.reg barSem) xP xP xP_xP xP_xP () 1 c) $$ HX
  ihave HZ := (Pipeline.launchCred_tallyAt (.reg barSem) zP zP zP_zP zP_zP () 1 c) $$ HZ
  isplitl [HX HZ]
  · iapply (show iprop(cred (tallyAt (barCell c) () 1) ∗ cred (tallyAt (barCell c) () 1)) ⊢ (cred (tallyAt (barCell c) () 2) : sProp 𝕄) from
      (cred_add _ _).2.trans (Entails.of_eq (congrArg cred (tallyAt_add (barCell c) () 1 1))))
    isplitl [HX] <;> iassumption
  · iapply (creds_zr chunks c); iexact H1

/-- A device's positions, its duties and the launch credit are all it needs at the start. -/
theorem startTok_intro (c : Dev nD) :
    iprop(positions c ∗ payToks c ∗ cred (tallyAt (barCell c) () 2) ∗ (bigSep Finset.univ fun i => cred (tallyAt (chCell .zr c i) () N))
      ∗ bigSep Finset.univ fun i => cred (tallyAt (chCell .xr c i) () N)) ⊢ (startTok c : sProp 𝕄) := by
  have hp : (positions c : sProp 𝕄) = iprop(atPos ER (barCell c) 0 ∅ 0 ∗ atPos ER (ownCell c) 0 ∅ 0
      ∗ (bigSep Finset.univ fun i => atPos ER (chCell .ow c i) 0 ∅ 0) ∗ (bigSep Finset.univ fun i => atPos ER (chCell .zs c i) 0 ∅ 0)
      ∗ (bigSep Finset.univ fun i => atPos ER (chCell .zr c i) 0 ∅ 0) ∗ (bigSep Finset.univ fun i => atPos ER (chCell .xs c i) 0 ∅ 0)
      ∗ bigSep Finset.univ fun i => atPos ER (chCell .xr c i) 0 ∅ 0) := by
    unfold positions; rw [bigSep_opt, bigSep_dma]; rfl
  have hs : (bigSep Finset.univ fun i => sendTok c i : sProp 𝕄) = iprop((bigSep Finset.univ fun i => dutyTok ER (chCell .zs c i) 0 false)
      ∗ bigSep Finset.univ fun i => dutyTok ER (chCell .zr (zP c) i) 0 false) := bigSep_sep' _ _ _
  have hm : (bigSep Finset.univ fun i => sumTok c i : sProp 𝕄) = _ := bigSep_five _ _ _ _ _
  have hc : (bigSep Finset.univ fun i => closeTok c i : sProp 𝕄) = _ := bigSep_five _ _ _ _ _
  rw [hp]
  unfold startTok openTok payToks
  rw [hs, hm, hc]
  iintro ⟨⟨Pb, Po, Pow, Pzs, Pzr, Pxs, Pxr⟩, ⟨Tbx, Tbz, To, Tow, Tzs, Tzr, Txs, Txr⟩, Cb, Czr, Cxr⟩
  isplitl [To Tbz Tbx Cb Pb]
  · isplitl [To]; · iexact To
    isplitl [Tbz]; · iexact Tbz
    isplitl [Tbx]; · iexact Tbx
    isplitl [Cb] <;> iassumption
  isplitl [Po]; · iexact Po
  isplitl [Tzs Tzr]
  · isplitl [Tzs] <;> iassumption
  isplitl [Czr Pzr Txs Txr Tow]
  · isplitl [Czr]; · iexact Czr
    isplitl [Pzr]; · iexact Pzr
    isplitl [Txs]; · iexact Txs
    isplitl [Txr] <;> iassumption
  · isplitl [Cxr]; · iexact Cxr
    isplitl [Pzs]; · iexact Pzs
    isplitl [Pxs]; · iexact Pxs
    isplitl [Pxr] <;> iassumption

end Cert.KernelIdeal.Chunked

end
-- ==== Proof.Launch.lean ====
/-
The launch: the body's obligation on each device, what a device starts from and ends with, and the run of the whole
program — for any float values, from any memory with all counters at zero.
-/
module

public import proofs.«01_k».proof.Proof.Deal
public import Idealize.ShloMosaic.Lib.Pipeline.CollectiveSegs

@[expose] public section

noncomputable section

namespace Cert.KernelIdeal.Chunked

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two arrays in memory as launched. -/
def arrays (c : Dev nD) : sProp 𝕄 :=
  iprop((((c : Thread nD τ).loc main_arg0) ↦{fullShare} xB m c) ∗ ((c : Thread nD τ).loc main_v1) ↦{fullShare} m ((c : Thread nD τ).loc main_v1))

/-- The working buffers at some contents. -/
def working (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- What device `c` holds when its kernel starts, beside its working buffers. -/
def start (c : Dev nD) : sProp 𝕄 := iprop((∃ K, known m K ∗ startTok c) ∗ arrays m c)

/-- The arrays at the end: the input unchanged, the result finished. -/
def ended (c : Dev nD) : sProp 𝕄 :=
  iprop((((c : Thread nD τ).loc main_arg0) ↦{fullShare} xB m c) ∗ ∃ g, ⌜Done m c g⌝ ∗ (((c : Thread nD τ).loc main_v1) ↦{fullShare} g))

/-- Before the kernel and after it. -/
def before (c : Dev nD) : sProp 𝕄 := iprop(start m c ∗ working c)
def after (c : Dev nD) : sProp 𝕄 := iprop(ended m c ∗ working c ∗ zeros c)

/-- The kernel as one region without windows: what each device holds before and after and what it owes. -/
def dats (_ : Fin 1) (c : Dev nD) : Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => owed₀ c
    | ⟨_ + 1, _⟩ => 0

theorem bigSep_none (Φ : Fin cfg0.W → sProp 𝕄) : bigSep Finset.univ Φ = iprop(emp) := by
  rw [show (Finset.univ : Finset (Fin cfg0.W)) = ∅ from rfl, bigSep_empty]
  rfl

set_option maxRecDepth 65536 in
/-- The kernel body runs from what a device holds before to what it holds after. -/
theorem body_obligation (c : Dev nD) : BodyObligation (dats (F := F) m 0 c) (defs₀ (F := F)) 𝒱₀ () Set.univ := fun t => by
  rw [fin_N0 t]
  rw [bigSep_none, bigSep_none]
  show iprop(before m c ∗ (dats m 0 c).owesAt () t0_0.castSucc ∗ emp) ⊢ WP c (cc0_body (F := F) xM (Memref.isWhole_whole _) oM (Memref.isWhole_whole _)
      lM (Memref.isWhole_whole _) rM (Memref.isWhole_whole _) cc0_scratch2 cc0_scratch3 cc0_scratch4 cc0_scratch5 cc0_scratch6 cc0_scratch7)
    (fun _ => iprop(after m c ∗ (dats m 0 c).owesAt () t0_0.succ ∗ emp))
  rw [body_eq_chunked]
  unfold before start arrays working Dat.owesAt Pipeline.owesWithin
  iintro ⟨⟨⟨⟨%K, #HK, Htok⟩, Hx, Ho⟩, Hl, Hr⟩, ⟨%W, %hW, HO⟩, -⟩
  iapply (prog_runs m K c fun _ => iprop(after m c ∗ (dats m 0 c).owesAt () t0_0.succ ∗ emp)) $$ [Htok Hx Ho Hl Hr HO]
  · isplitr; · iexact HK
    unfold bodyPre owesE
    isplitl [Htok]; · iexact Htok
    isplitl [HO]; · iexists W; iexact HO
    isplitl [Hx]; · iexact Hx
    isplitl [Ho]; · iexists _; iexact Ho
    isplitl [Hl] <;> iassumption
  unfold bodyPost owesE after ended working Dat.owesAt Pipeline.owesWithin
  iintro ⟨⟨%W', HO⟩, Hx, Ho, Hl, Hr, Hz⟩
  isplitl [Hx Ho Hl Hr Hz]
  · isplitl [Hx Ho]
    · isplitl [Hx] <;> iassumption
    isplitl [Hl Hr]
    · isplitl [Hl] <;> iassumption
    iexact Hz
  isplitl [HO]
  · iexists W'
    isplitr; · ipureintro; exact fun _ _ => Or.inl trivial
    iexact HO
  · iempintro

theorem ownSemFacts : Pipeline.OwnSemFacts cfg0.spec osem := by decide

theorem start_intro (c : Dev nD) :
    iprop(Pipeline.unscopedRestP Pipeline.Prefetch.none cfg0.spec c (fun b => m ((c : Thread nD τ).loc b)) ∗ levAts L lv
        ∗ Pipeline.launchCred (fun d => owed₀ d) c ∗ prngReg c (ρ c) ∗ G' m c)
      ⊢ |={Set.univ}=> iprop(start m c ∗ emp) := by
  rw [Pipeline.unscopedRestP_none, unscopedRest0_eq]
  unfold G' start arrays
  iintro ⟨⟨Hx, Ho⟩, #Hlev, Hcr, -, ⟨%K, #HR, Hp, Ht⟩⟩
  ihave Hc := (creds (F := F) c) $$ Hcr
  icases Hc with ⟨H1, H2, H3⟩
  imodintro
  isplitl
  · isplitr [Hx Ho]
    · iexists K
      isplitr
      · unfold records known
        icases HR with ⟨#HI, #HS⟩
        isplitr; · iexact HI
        isplitr; · iexact HS
        iexact Hlev
      · iapply (startTok_intro (F := F) c)
        isplitl [Hp]; · iexact Hp
        isplitl [Ht]; · iexact Ht
        isplitl [H1]; · iexact H1
        isplitl [H2] <;> iassumption
    · isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before working
  iintro ⟨Hs, -, Hr⟩
  isplitl [Hs] <;> iassumption

/-- What a device passes on at the end: its arrays, and the handshake semaphore at zero. -/
def Y (c : Dev nD) : sProp 𝕄 := iprop(ended m c ∗ unscopedSems0 c)

theorem phi1_exit (c : Dev nD) :
    (dats m 0 c).Φ (Fin.last cfg0.N) ⊢ iprop(Y m c ∗ Pipeline.ownSems0 osem c ∗ Pipeline.scopedRest cfg0.spec c) := by
  have h4 : (bigSep Finset.univ fun i => iprop(semVal (chCell .zs c i) 0 ∗ semVal (chCell .xs c i) 0 ∗ semVal (chCell .xr c i) 0 ∗ semVal (chCell .ow c i) 0) : sProp 𝕄)
      = iprop((bigSep Finset.univ fun i => semVal (chCell .zs c i) 0) ∗ (bigSep Finset.univ fun i => semVal (chCell .xs c i) 0)
        ∗ (bigSep Finset.univ fun i => semVal (chCell .xr c i) 0) ∗ bigSep Finset.univ fun i => semVal (chCell .ow c i) 0) := by
    rw [bigSep_sep', bigSep_sep', bigSep_sep']
  rw [show (dats m 0 c).Φ (Fin.last cfg0.N) = after m c from rfl, scopedRest0_eq, own_eq]
  unfold after Y zeros working
  rw [unscoped_eq, h4]
  iintro ⟨He, Hw, Hb, Ho, Hzr, Hzs, Hxs, Hxr, How⟩
  isplitl [He Hb]
  · isplitl [He] <;> iassumption
  isplitr [Hw]
  · isplitl [Ho]; · iexact Ho
    isplitl [How]; · iexact How
    isplitl [Hzs]; · iexact Hzs
    isplitl [Hzr]; · iexact Hzr
    isplitl [Hxs] <;> iassumption
  · iexact Hw

/-- What is read off a device at the end. -/
def ReadOff (c : Dev nD) (s : MemSt nD τ sig (Elt F)) : Prop :=
  (s.mem ((c : Thread nD τ).loc main_arg0) = m ((c : Thread nD τ).loc main_arg0) ∧ Done m c (s.mem ((c : Thread nD τ).loc main_v1)))
    ∧ ∀ sm : SemLoc sig, sm.isScoped .tc = false → s.sem ((c.tc : Thread nD τ), sm) = 0

theorem read_off (c : Dev nD) (s' : Phys nD τ sig (Elt F)) :
    iprop(Y m c ∗ emp ∗ SI s') ⊢ (|={Set.univ}=> iprop(⌜ReadOff m c s'.mem⌝ ∗ SI s') : sProp 𝕄) := by
  unfold Y ended
  iintro ⟨⟨⟨Hx, ⟨%g, %hg, Ho⟩⟩, Hu⟩, -, HSI⟩
  imod (Pipeline.unscopedSems0_read (X := (unscopedSems0 c : sProp 𝕄)) (c := c) fupd_intro s') $$ [Hu HSI] with ⟨%hs, HSI⟩
  · isplitl [Hu] <;> iassumption
  icombine HSI Hx gives %hx
  icombine HSI Ho gives %ho
  imodintro
  isplitr
  · ipureintro
    refine ⟨⟨Buf.eq_of_forall_mem_univ hx, ?_⟩, hs⟩
    rw [Buf.eq_of_forall_mem_univ ho]; exact hg
  · iexact HSI

set_option maxRecDepth 8000 in
/-- For any float values and from any memory with all counters at zero, every fair run of the program on the eight devices
    ends; then every device's input is unchanged, its result holds the finished chunks of both halves of the rows, and all
    counters are zero again. -/
theorem run_main : θ_run defs (onTc (τ := τ) (main (F := F))) (s₀ m ρ) (fun r => (∀ c : Dev nD,
      r.2.mem ((c : Thread nD τ).loc main_arg0) = m ((c : Thread nD τ).loc main_arg0) ∧ Done m c (r.2.mem ((c : Thread nD τ).loc main_v1)))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun c w => w.elim0)
    (hdistinct := winFacts0.arr_inj)
    (O₀ := fun d => owed₀ d) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := ReadOff m) (hY := read_off m)
    (hQ := fun _ h hs => ⟨fun c => (h c).2.2.1, sem_eq_zero hs fun c => (h c).2.2.2⟩)

end Cert.KernelIdeal.Chunked

end
-- ==== Proof.Values.lean ====
/-
The values: what the finished chunks hold, element by element, and that the result of a device is its half of the
columns of the sum over the reference's first axis.
-/
module

public import proofs.«01_k».proof.Proof.Launch
public import proofs.«01_k».proof.Proof.Gen.ReferenceIdeal.Run
public import Idealize.ShloMosaic.Lib.Layout
public import Idealize.ShloMosaic.Lib.Pointwise.Reduce
public import Idealize.ShloMosaic.Lib.ValueIdxCore
public import Idealize.ShloMosaic.PureOps.Ideal.Laws

@[expose] public section

noncomputable section

namespace Cert.KernelIdeal.Chunked

open Cert.KernelIdeal Cert.KernelIdeal.Gen

open Idealize.ShloMosaic
open Idealize.ShloMosaic.TcCoe

variable {F : FTy → Type} [FloatOps F]

/-- Which half of the columns a device keeps: its z coordinate. -/
abbrev colHalf (c : Dev nD) : ℕ := c.val % 2

theorem colHalf_le (c : Dev nD) : colHalf c ≤ 1 := by have := Nat.mod_lt c.val (show 0 < 2 by decide); show c.val % 2 ≤ 1; omega
theorem half_zP (c : Dev nD) : half (zP c) = half c := by revert c; decide +kernel
theorem colHalf_zP (c : Dev nD) : colHalf (zP c) = 1 - colHalf c := by revert c; decide +kernel
theorem colHalf_xP (c : Dev nD) : colHalf (xP c) = colHalf c := by revert c; decide +kernel

/-- The row of the arrays that row `a` of chunk `i` is, for the devices keeping the half of `c`. -/
def chRow (c : Dev nD) (i : Fin 8) (a : Fin 32) : Fin 512 :=
  ⟨256 * half c + 32 * i.val + a.val, by have := half_le c; have := i.isLt; have := a.isLt; omega⟩
/-- The column of the input that column `q` of the kept half is. -/
def keptCol (c : Dev nD) (q : Fin 512) : Fin 1024 := ⟨512 * colHalf c + q.val, by have := colHalf_le c; have := q.isLt; omega⟩

section Reads
variable (c : Dev nD) (i : Fin 8) (a : Fin 32) (q : Fin 512)

theorem read_oCh (g : Buf (Elt F) ((c : Thread nD τ).loc main_v1)) : (oCh c i).view.read (Elt F) g (ix2 a q) = g (ix2 (chRow c i a) q) := by
  show g ((Rect.unit (s := S512x512) (k0_off3 c (BitVec.ofNat 32 (32 * i.val))) S32x512.size (k0_off3_inb c i)).emb (ix2 a q)) = _
  have ho := k0_off3_eq c i
  refine congrArg g (funext fun b => Fin.ext ?_)
  rw [Rect.emb_apply]
  fin_cases b
  · show k0_off3 c (BitVec.ofNat 32 (32 * i.val)) 0 + 1 * a.val = 256 * half c + 32 * i.val + a.val
    rw [ho, Nat.one_mul]; rfl
  · show k0_off3 c (BitVec.ofNat 32 (32 * i.val)) 1 + 1 * q.val = q.val
    rw [ho, Nat.one_mul]; exact Nat.zero_add _

theorem read_kept (f : Buf (Elt F) ((c : Thread nD τ).loc main_arg0)) :
    (lCh i).view.read (Elt F) ((xOwn c).view.read (Elt F) f) (ix2 a q) = f (ix3 (0 : Fin 1) (chRow c i a) (keptCol c q)) := by
  show f ((Rect.unit (s := S1x512x1024) (k0_off1 c) S1x256x512.size (k0_off1_inb c)).emb
    (Shape.reshapeEquiv squeezes_S1x256x512_S256x512.numel_eq
      ((Rect.unit (s := S256x512) ![32 * i.val, 0] S32x512.size (locIn i)).emb (ix2 a q)))) = _
  have hc : ∀ y : S256x512.Idx, Shape.reshapeEquiv squeezes_S1x256x512_S256x512.numel_eq y = (Fin.cons ⟨0, Nat.one_pos⟩ y : S1x256x512.Idx) :=
    fun y => Shape.reshapeEquiv_cons_one _ y
  rw [hc]
  have ho := k0_off1_eq c
  refine congrArg f (funext fun b => Fin.ext ?_)
  rw [Rect.emb_apply]
  fin_cases b
  · show k0_off1 c 0 + 1 * 0 = 0
    rw [ho]; rfl
  · show k0_off1 c 1 + 1 * (32 * i.val + 1 * a.val) = 256 * half c + 32 * i.val + a.val
    rw [ho]; show 256 * half c + 1 * (32 * i.val + 1 * a.val) = _; omega
  · show k0_off1 c 2 + 1 * (0 + 1 * q.val) = 512 * colHalf c + q.val
    rw [ho]; show 512 * colHalf c + 1 * (0 + 1 * q.val) = _; omega

theorem read_sent (f : Buf (Elt F) ((zP c : Thread nD τ).loc main_arg0)) :
    (xOut (zP c) i).view.read (Elt F) f (ix2 a q) = f (ix3 (0 : Fin 1) (chRow c i a) (keptCol c q)) := by
  show f ((Rect.unit (s := S1x512x1024) (k0_off2 (zP c) (BitVec.ofNat 32 (32 * i.val))) S1x32x512.size (k0_off2_inb (zP c) i)).emb
    (Shape.reshapeEquiv squeezes_S1x32x512_S32x512.numel_eq (ix2 a q))) = _
  have hc : ∀ y : S32x512.Idx, Shape.reshapeEquiv squeezes_S1x32x512_S32x512.numel_eq y = (Fin.cons ⟨0, Nat.one_pos⟩ y : S1x32x512.Idx) :=
    fun y => Shape.reshapeEquiv_cons_one _ y
  rw [hc]
  have ho := k0_off2_eq (zP c) i
  have hz := half_zP c
  have hq := colHalf_zP c
  have hq1 := colHalf_le c
  refine congrArg f (funext fun b => Fin.ext ?_)
  rw [Rect.emb_apply]
  fin_cases b
  · show k0_off2 (zP c) (BitVec.ofNat 32 (32 * i.val)) 0 + 1 * 0 = 0
    rw [ho]; rfl
  · show k0_off2 (zP c) (BitVec.ofNat 32 (32 * i.val)) 1 + 1 * a.val = 256 * half c + 32 * i.val + a.val
    rw [ho]; show 256 * half (zP c) + 32 * i.val + 1 * a.val = _; rw [hz]; omega
  · show k0_off2 (zP c) (BitVec.ofNat 32 (32 * i.val)) 2 + 1 * q.val = 512 * colHalf c + q.val
    rw [ho]; show 512 - 512 * colHalf (zP c) + 1 * q.val = _; rw [hq]; omega

variable (m : (ℓ : Loc nD τ sig) → Buf (Elt F) ℓ)

/-- An element of a finished chunk is the sum of the device's and its z-partner's inputs there. -/
theorem sumCh_at : sumCh m c i (ix2 a q)
    = FloatOps.addf (φ := .f32) (xB m c (ix3 (0 : Fin 1) (chRow c i a) (keptCol c q))) (xB m (zP c) (ix3 (0 : Fin 1) (chRow c i a) (keptCol c q))) := by
  show FloatOps.addf (φ := .f32) (keptCh m c i (ix2 a q)) (sentCh m (zP c) i (ix2 a q)) = _
  rw [show keptCh m c i (ix2 a q) = _ from read_kept c i a q (xB m c), show sentCh m (zP c) i (ix2 a q) = _ from read_sent c i a q (xB m (zP c))]

end Reads

variable (m : (ℓ : Loc nD τ sig) → Buf (Elt F) ℓ)

/-- A finished result, element by element: at each row some device keeping the same half of the columns as `c` has added
    its own input and its z-partner's. -/
theorem done_at (c : Dev nD) (g : Buf (Elt F) ((c : Thread nD τ).loc main_v1)) (h : Done m c g) (r q : Fin 512) :
    ∃ d : Dev nD, colHalf d = colHalf c ∧ g (ix2 r q)
      = FloatOps.addf (φ := .f32) (xB m d (ix3 (0 : Fin 1) r (keptCol c q))) (xB m (zP d) (ix3 (0 : Fin 1) r (keptCol c q))) := by
  have key : ∀ d : Dev nD, colHalf d = colHalf c → half d = r.val / 256 → (∀ i, (oCh d i).view.read (Elt F) g = sumCh m d i) →
      g (ix2 r q) = FloatOps.addf (φ := .f32) (xB m d (ix3 (0 : Fin 1) r (keptCol c q))) (xB m (zP d) (ix3 (0 : Fin 1) r (keptCol c q))) := by
    intro d hq hd hr
    have hrow : chRow d ⟨r.val % 256 / 32, by omega⟩ ⟨r.val % 32, by omega⟩ = r :=
      Fin.ext (show 256 * half d + 32 * (r.val % 256 / 32) + r.val % 32 = r.val by omega)
    have hcol : keptCol d q = keptCol c q := Fin.ext (show 512 * colHalf d + q.val = 512 * colHalf c + q.val by rw [hq])
    have h1 := congrFun (hr ⟨r.val % 256 / 32, by omega⟩) (ix2 ⟨r.val % 32, by omega⟩ q)
    rw [read_oCh, sumCh_at, hrow, hcol] at h1
    exact h1
  have hr := r.isLt
  have hx := half_xP c
  have hl := half_le c
  by_cases e : half c = r.val / 256
  · exact ⟨c, rfl, key c rfl e h.1⟩
  · exact ⟨xP c, colHalf_xP c, key (xP c) (colHalf_xP c) (by omega) h.2⟩

/-! ## Against the reference -/

/-- The reference's term: the sum over the first axis. -/
abbrev refSum (X : (⟨3, ![2, 512, 1024]⟩ : Shape).Idx → EReal) : (⟨2, ![512, 1024]⟩ : Shape).Idx → EReal :=
  Host.reduceAdd (F := Ideal) (φ := .f32) X (constant Cert.ReferenceIdeal.S_ .f32 0x00000000#32)
    Cert.ReferenceIdeal.Gen.reducesTo_S2x512x1024_S512x1024_d0 Cert.ReferenceIdeal.Gen.h_S_

theorem refSum_at (X : (⟨3, ![2, 512, 1024]⟩ : Shape).Idx → EReal) (r : Fin 512) (q : Fin 1024) :
    refSum X (ix2 r q) = X (ix3 (0 : Fin 2) r q) + X (ix3 (1 : Fin 2) r q) := by
  show Ideal.hostReduceAdd Cert.ReferenceIdeal.Gen.reducesTo_S2x512x1024_S512x1024_d0 X (Ideal.ofBits .f32 0x00000000#32) (ix2 r q) = _
  rw [Ideal.ofBits_zero_f32, Ideal.hostReduceAdd_r3_a0, zero_add, Fin.sum_univ_two]
  rfl

/-- The mesh's third axis places device `c` at its z coordinate. -/
theorem mesh_z : ∀ c : Dev nD, Layout.meshLin [2, 2, 2] c.val [2] = colHalf c := by decide +kernel

/-- A device's part of the input is the plane of its z coordinate. -/
theorem input_at (X : (⟨3, ![2, 512, 1024]⟩ : Shape).Idx → EReal) (c : Dev nD) (z : Fin 2) (hz : colHalf c = z.val) (r : Fin 512) (q : Fin 1024) :
    (Layout.blockN ⟨3, ![1, 512, 1024]⟩ ⟨3, ![2, 512, 1024]⟩ (Layout.meshBlock [2, 2, 2] ![[2], [], []] c) X : (⟨3, ![1, 512, 1024]⟩ : Shape).Idx → EReal) (ix3 (0 : Fin 1) r q) = X (ix3 z r q) := by
  rw [Layout.blockN_apply]
  refine congrArg X (funext fun b => Fin.ext ?_)
  rw [Layout.TilesN.idx_val, Layout.meshBlock_val]
  match b with
  | ⟨0, _⟩ =>
    refine Eq.trans (b := Layout.meshLin [2, 2, 2] c.val [2] * 1 + 0) rfl ?_
    rw [mesh_z, hz, Nat.mul_one, Nat.add_zero]; rfl
  | ⟨1, _⟩ => exact Eq.trans (b := 0 * 512 + r.val) rfl (by rw [Nat.zero_mul, Nat.zero_add]; rfl)
  | ⟨2, _⟩ => exact Eq.trans (b := 0 * 1024 + q.val) rfl (by rw [Nat.zero_mul, Nat.zero_add]; rfl)

/-- A device's part of the result is its half of the columns. -/
theorem output_at (v : (⟨2, ![512, 1024]⟩ : Shape).Idx → EReal) (c : Dev nD) (r q : Fin 512) :
    (Layout.blockN ⟨2, ![512, 512]⟩ ⟨2, ![512, 1024]⟩ (Layout.meshBlock [2, 2, 2] ![[], [2]] c) v : (⟨2, ![512, 512]⟩ : Shape).Idx → EReal) (ix2 r q) = v (ix2 r (keptCol c q)) := by
  rw [Layout.blockN_apply]
  refine congrArg v (funext fun b => Fin.ext ?_)
  rw [Layout.TilesN.idx_val, Layout.meshBlock_val]
  match b with
  | ⟨0, _⟩ => exact Eq.trans (b := 0 * 512 + r.val) rfl (by rw [Nat.zero_mul, Nat.zero_add]; rfl)
  | ⟨1, _⟩ =>
    refine Eq.trans (b := Layout.meshLin [2, 2, 2] c.val [2] * 512 + q.val) rfl ?_
    rw [mesh_z, Nat.mul_comm]; rfl

/-- When every device's input is its part of `X`, a finished result is the device's part of the sum of `X` over its first axis. -/
theorem done_eq (m : (ℓ : Loc nD τ sig) → Buf (Elt Ideal) ℓ) (X : (⟨3, ![2, 512, 1024]⟩ : Shape).Idx → EReal)
    (hX : ∀ c : Dev nD, m ((c : Thread nD τ).loc main_arg0)
      = Layout.blockN ⟨3, ![1, 512, 1024]⟩ ⟨3, ![2, 512, 1024]⟩ (Layout.meshBlock [2, 2, 2] ![[2], [], []] c) X)
    (c : Dev nD) (g : Buf (Elt Ideal) ((c : Thread nD τ).loc main_v1)) (h : Done m c g) :
    g = Layout.blockN ⟨2, ![512, 512]⟩ ⟨2, ![512, 1024]⟩ (Layout.meshBlock [2, 2, 2] ![[], [2]] c) (refSum X) := by
  funext j
  obtain ⟨r, q, rfl⟩ : ∃ r q : Fin 512, j = ix2 r q := ⟨j 0, j 1, eq_ix2 j⟩
  obtain ⟨d, hd, hg⟩ := done_at m c g h r q
  rw [output_at, refSum_at, hg]
  have hin : ∀ (e : Dev nD) (z : Fin 2), colHalf e = z.val → ∀ (r : Fin 512) (q : Fin 1024), xB m e (ix3 (0 : Fin 1) r q) = X (ix3 z r q) :=
    fun e z hz r q => (congrFun (hX e) _).trans (input_at X e z hz r q)
  have hz := colHalf_zP d
  have hl := colHalf_le d
  rcases Nat.lt_or_ge (colHalf d) 1 with h0 | h1
  · rw [hin d 0 (by show colHalf d = 0; omega), hin (zP d) 1 (by show colHalf (zP d) = 1; omega)]; rfl
  · rw [hin d 1 (by show colHalf d = 1; omega), hin (zP d) 0 (by show colHalf (zP d) = 0; omega)]
    exact add_comm (G := EReal) _ _

end Cert.KernelIdeal.Chunked

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at machine words ends with its input unchanged and every semaphore at zero. -/
theorem frame_kernel : Cert.quiescent_Kernel := fun m g _ =>
  (θ_run Cert.KernelIdeal.defs _ _).mono (fun _ h => ⟨fun c => (h.1 c).1, h.2⟩) (Cert.KernelIdeal.Chunked.run_main (F := Bits) m g)

/-- The kernel at the ideal values ends with its input unchanged and every semaphore at zero. -/
theorem frame_ideal : Cert.quiescent_KernelIdeal := fun m g _ =>
  (θ_run Cert.KernelIdeal.defs _ _).mono (fun _ h => ⟨fun c => (h.1 c).1, h.2⟩) (Cert.KernelIdeal.Chunked.run_main (F := Ideal) m g)

/-- The reference ends with its input unchanged; it declares no semaphore, so every counter is zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each device's result is its part of the reference's sum. -/
theorem value : Cert.algebraic_KernelIdeal_ReferenceIdeal := fun m g m' g' _ hX =>
  ⟨Cert.KernelIdeal.Chunked.refSum (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨Cert.KernelIdeal.Chunked.done_eq m _ hX c _ (h.1 c).2, (h.1 c).1⟩) (Cert.KernelIdeal.Chunked.run_main (F := Ideal) m g),
    (θ_run Cert.ReferenceIdeal.defs _ _).mono (fun _ h => h 0) (Cert.ReferenceIdeal.Value.run (F := Ideal) m' g')⟩

/-- Everything claimed: the three frames, that the ideal program is the kernel's own text, and the value. -/
theorem claim : Cert.Claim := ⟨Cert.Kernel.Gen.facts, Cert.KernelIdeal.Gen.facts, Cert.ReferenceIdeal.Gen.facts,
  frame_kernel, frame_ideal, frame_reference, trivial, value⟩

end Cert.Proof

end
